-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_scales_finite [hPre_scales_finite : Cert.Pre_scales_finite.Facts] (m : (ℓ : Loc Cert.KernelIdeal.nD Cert.KernelIdeal.τ Cert.KernelIdeal.sig) → Buf (Elt Ideal) ℓ) : Prop :=
  ∀ c : Dev Cert.KernelIdeal.nD,
    (Cert.Pre_scales_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_scales_finite [hPre_scales_finite : Cert.Pre_scales_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_scales_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def Pre_Back (m : (ℓ : Loc Cert.Back.nD Cert.Back.τ Cert.Back.sig) → Buf (Elt Bits) ℓ) : Prop :=
  True

def Pre_BackIdeal (m : (ℓ : Loc Cert.BackIdeal.nD Cert.BackIdeal.τ Cert.BackIdeal.sig) → Buf (Elt Ideal) ℓ) : Prop :=
  True

def Pre_BackReferenceIdeal (m : (ℓ : Loc Cert.BackReferenceIdeal.nD Cert.BackReferenceIdeal.τ Cert.BackReferenceIdeal.sig) → Buf (Elt Ideal) ℓ) : Prop :=
  True

def Pre_Front (m : (ℓ : Loc Cert.Front.nD Cert.Front.τ Cert.Front.sig) → Buf (Elt Bits) ℓ) : Prop :=
  True

def Pre_FrontIdeal (m : (ℓ : Loc Cert.FrontIdeal.nD Cert.FrontIdeal.τ Cert.FrontIdeal.sig) → Buf (Elt Ideal) ℓ) : Prop :=
  True

def Pre_FrontReferenceIdeal (m : (ℓ : Loc Cert.FrontReferenceIdeal.nD Cert.FrontReferenceIdeal.τ Cert.FrontReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_KernelIdeal_pre_scales_finite [hKernelIdeal : Cert.KernelIdeal.Facts] [hPre_scales_finite : Cert.Pre_scales_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_scales_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def quiescent_ReferenceIdeal_pre_scales_finite [hReferenceIdeal : Cert.ReferenceIdeal.Facts] [hPre_scales_finite : Cert.Pre_scales_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_scales_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def quiescent_Back [hBack : Cert.Back.Facts] : Prop :=
  ∀ (m : (ℓ : Loc Cert.Back.nD Cert.Back.τ Cert.Back.sig) → Buf (Elt Bits) ℓ) (g : Dev Cert.Back.nD → PrngReg), Pre_Back m →
    θ_run (Cert.Back.defs (F := Bits)) (onTc (τ := Cert.Back.τ) (Cert.Back.main (F := Bits))) ⟨m, fun _ => 0, g⟩ (fun r => (∀ c : Dev Cert.Back.nD,
      r.2.mem ((c.tc : Thread Cert.Back.nD Cert.Back.τ).loc Cert.Back.main_arg0) = m ((c.tc : Thread Cert.Back.nD Cert.Back.τ).loc Cert.Back.main_arg0)
      ∧ r.2.mem ((c.tc : Thread Cert.Back.nD Cert.Back.τ).loc Cert.Back.main_arg1) = m ((c.tc : Thread Cert.Back.nD Cert.Back.τ).loc Cert.Back.main_arg1)
      ∧ r.2.mem ((c.tc : Thread Cert.Back.nD Cert.Back.τ).loc Cert.Back.main_arg2) = m ((c.tc : Thread Cert.Back.nD Cert.Back.τ).loc Cert.Back.main_arg2)
      ∧ r.2.mem ((c.tc : Thread Cert.Back.nD Cert.Back.τ).loc Cert.Back.main_arg3) = m ((c.tc : Thread Cert.Back.nD Cert.Back.τ).loc Cert.Back.main_arg3))
      ∧ r.2.sem = fun _ => 0)

def quiescent_BackIdeal [hBackIdeal : Cert.BackIdeal.Facts] : Prop :=
  ∀ (m : (ℓ : Loc Cert.BackIdeal.nD Cert.BackIdeal.τ Cert.BackIdeal.sig) → Buf (Elt Ideal) ℓ) (g : Dev Cert.BackIdeal.nD → PrngReg), Pre_BackIdeal m →
    θ_run (Cert.BackIdeal.defs (F := Ideal)) (onTc (τ := Cert.BackIdeal.τ) (Cert.BackIdeal.main (F := Ideal))) ⟨m, fun _ => 0, g⟩ (fun r => (∀ c : Dev Cert.BackIdeal.nD,
      r.2.mem ((c.tc : Thread Cert.BackIdeal.nD Cert.BackIdeal.τ).loc Cert.BackIdeal.main_arg0) = m ((c.tc : Thread Cert.BackIdeal.nD Cert.BackIdeal.τ).loc Cert.BackIdeal.main_arg0)
      ∧ r.2.mem ((c.tc : Thread Cert.BackIdeal.nD Cert.BackIdeal.τ).loc Cert.BackIdeal.main_arg1) = m ((c.tc : Thread Cert.BackIdeal.nD Cert.BackIdeal.τ).loc Cert.BackIdeal.main_arg1)
      ∧ r.2.mem ((c.tc : Thread Cert.BackIdeal.nD Cert.BackIdeal.τ).loc Cert.BackIdeal.main_arg2) = m ((c.tc : Thread Cert.BackIdeal.nD Cert.BackIdeal.τ).loc Cert.BackIdeal.main_arg2)
      ∧ r.2.mem ((c.tc : Thread Cert.BackIdeal.nD Cert.BackIdeal.τ).loc Cert.BackIdeal.main_arg3) = m ((c.tc : Thread Cert.BackIdeal.nD Cert.BackIdeal.τ).loc Cert.BackIdeal.main_arg3))
      ∧ r.2.sem = fun _ => 0)

def quiescent_BackReferenceIdeal [hBackReferenceIdeal : Cert.BackReferenceIdeal.Facts] : Prop :=
  ∀ (m : (ℓ : Loc Cert.BackReferenceIdeal.nD Cert.BackReferenceIdeal.τ Cert.BackReferenceIdeal.sig) → Buf (Elt Ideal) ℓ) (g : Dev Cert.BackReferenceIdeal.nD → PrngReg), Pre_BackReferenceIdeal m →
    θ_run (Cert.BackReferenceIdeal.defs (F := Ideal)) (onTc (τ := Cert.BackReferenceIdeal.τ) (Cert.BackReferenceIdeal.main (F := Ideal))) ⟨m, fun _ => 0, g⟩ (fun r => (∀ c : Dev Cert.BackReferenceIdeal.nD,
      r.2.mem ((c.tc : Thread Cert.BackReferenceIdeal.nD Cert.BackReferenceIdeal.τ).loc Cert.BackReferenceIdeal.main_arg0) = m ((c.tc : Thread Cert.BackReferenceIdeal.nD Cert.BackReferenceIdeal.τ).loc Cert.BackReferenceIdeal.main_arg0)
      ∧ r.2.mem ((c.tc : Thread Cert.BackReferenceIdeal.nD Cert.BackReferenceIdeal.τ).loc Cert.BackReferenceIdeal.main_arg1) = m ((c.tc : Thread Cert.BackReferenceIdeal.nD Cert.BackReferenceIdeal.τ).loc Cert.BackReferenceIdeal.main_arg1)
      ∧ r.2.mem ((c.tc : Thread Cert.BackReferenceIdeal.nD Cert.BackReferenceIdeal.τ).loc Cert.BackReferenceIdeal.main_arg2) = m ((c.tc : Thread Cert.BackReferenceIdeal.nD Cert.BackReferenceIdeal.τ).loc Cert.BackReferenceIdeal.main_arg2)
      ∧ r.2.mem ((c.tc : Thread Cert.BackReferenceIdeal.nD Cert.BackReferenceIdeal.τ).loc Cert.BackReferenceIdeal.main_arg3) = m ((c.tc : Thread Cert.BackReferenceIdeal.nD Cert.BackReferenceIdeal.τ).loc Cert.BackReferenceIdeal.main_arg3))
      ∧ r.2.sem = fun _ => 0)

def quiescent_Front [hFront : Cert.Front.Facts] : Prop :=
  ∀ (m : (ℓ : Loc Cert.Front.nD Cert.Front.τ Cert.Front.sig) → Buf (Elt Bits) ℓ) (g : Dev Cert.Front.nD → PrngReg), Pre_Front m →
    θ_run (Cert.Front.defs (F := Bits)) (onTc (τ := Cert.Front.τ) (Cert.Front.main (F := Bits))) ⟨m, fun _ => 0, g⟩ (fun r => (∀ c : Dev Cert.Front.nD,
      r.2.mem ((c.tc : Thread Cert.Front.nD Cert.Front.τ).loc Cert.Front.main_arg0) = m ((c.tc : Thread Cert.Front.nD Cert.Front.τ).loc Cert.Front.main_arg0)
      ∧ r.2.mem ((c.tc : Thread Cert.Front.nD Cert.Front.τ).loc Cert.Front.main_arg1) = m ((c.tc : Thread Cert.Front.nD Cert.Front.τ).loc Cert.Front.main_arg1)
      ∧ r.2.mem ((c.tc : Thread Cert.Front.nD Cert.Front.τ).loc Cert.Front.main_arg2) = m ((c.tc : Thread Cert.Front.nD Cert.Front.τ).loc Cert.Front.main_arg2)
      ∧ r.2.mem ((c.tc : Thread Cert.Front.nD Cert.Front.τ).loc Cert.Front.main_arg3) = m ((c.tc : Thread Cert.Front.nD Cert.Front.τ).loc Cert.Front.main_arg3))
      ∧ r.2.sem = fun _ => 0)

def quiescent_FrontIdeal [hFrontIdeal : Cert.FrontIdeal.Facts] : Prop :=
  ∀ (m : (ℓ : Loc Cert.FrontIdeal.nD Cert.FrontIdeal.τ Cert.FrontIdeal.sig) → Buf (Elt Ideal) ℓ) (g : Dev Cert.FrontIdeal.nD → PrngReg), Pre_FrontIdeal m →
    θ_run (Cert.FrontIdeal.defs (F := Ideal)) (onTc (τ := Cert.FrontIdeal.τ) (Cert.FrontIdeal.main (F := Ideal))) ⟨m, fun _ => 0, g⟩ (fun r => (∀ c : Dev Cert.FrontIdeal.nD,
      r.2.mem ((c.tc : Thread Cert.FrontIdeal.nD Cert.FrontIdeal.τ).loc Cert.FrontIdeal.main_arg0) = m ((c.tc : Thread Cert.FrontIdeal.nD Cert.FrontIdeal.τ).loc Cert.FrontIdeal.main_arg0)
      ∧ r.2.mem ((c.tc : Thread Cert.FrontIdeal.nD Cert.FrontIdeal.τ).loc Cert.FrontIdeal.main_arg1) = m ((c.tc : Thread Cert.FrontIdeal.nD Cert.FrontIdeal.τ).loc Cert.FrontIdeal.main_arg1)
      ∧ r.2.mem ((c.tc : Thread Cert.FrontIdeal.nD Cert.FrontIdeal.τ).loc Cert.FrontIdeal.main_arg2) = m ((c.tc : Thread Cert.FrontIdeal.nD Cert.FrontIdeal.τ).loc Cert.FrontIdeal.main_arg2)
      ∧ r.2.mem ((c.tc : Thread Cert.FrontIdeal.nD Cert.FrontIdeal.τ).loc Cert.FrontIdeal.main_arg3) = m ((c.tc : Thread Cert.FrontIdeal.nD Cert.FrontIdeal.τ).loc Cert.FrontIdeal.main_arg3))
      ∧ r.2.sem = fun _ => 0)

def quiescent_FrontReferenceIdeal [hFrontReferenceIdeal : Cert.FrontReferenceIdeal.Facts] : Prop :=
  ∀ (m : (ℓ : Loc Cert.FrontReferenceIdeal.nD Cert.FrontReferenceIdeal.τ Cert.FrontReferenceIdeal.sig) → Buf (Elt Ideal) ℓ) (g : Dev Cert.FrontReferenceIdeal.nD → PrngReg), Pre_FrontReferenceIdeal m →
    θ_run (Cert.FrontReferenceIdeal.defs (F := Ideal)) (onTc (τ := Cert.FrontReferenceIdeal.τ) (Cert.FrontReferenceIdeal.main (F := Ideal))) ⟨m, fun _ => 0, g⟩ (fun r => (∀ c : Dev Cert.FrontReferenceIdeal.nD,
      r.2.mem ((c.tc : Thread Cert.FrontReferenceIdeal.nD Cert.FrontReferenceIdeal.τ).loc Cert.FrontReferenceIdeal.main_arg0) = m ((c.tc : Thread Cert.FrontReferenceIdeal.nD Cert.FrontReferenceIdeal.τ).loc Cert.FrontReferenceIdeal.main_arg0)
      ∧ r.2.mem ((c.tc : Thread Cert.FrontReferenceIdeal.nD Cert.FrontReferenceIdeal.τ).loc Cert.FrontReferenceIdeal.main_arg1) = m ((c.tc : Thread Cert.FrontReferenceIdeal.nD Cert.FrontReferenceIdeal.τ).loc Cert.FrontReferenceIdeal.main_arg1)
      ∧ r.2.mem ((c.tc : Thread Cert.FrontReferenceIdeal.nD Cert.FrontReferenceIdeal.τ).loc Cert.FrontReferenceIdeal.main_arg2) = m ((c.tc : Thread Cert.FrontReferenceIdeal.nD Cert.FrontReferenceIdeal.τ).loc Cert.FrontReferenceIdeal.main_arg2)
      ∧ r.2.mem ((c.tc : Thread Cert.FrontReferenceIdeal.nD Cert.FrontReferenceIdeal.τ).loc Cert.FrontReferenceIdeal.main_arg3) = m ((c.tc : Thread Cert.FrontReferenceIdeal.nD Cert.FrontReferenceIdeal.τ).loc Cert.FrontReferenceIdeal.main_arg3))
      ∧ r.2.sem = fun _ => 0)

def preserves_Kernel_KernelIdeal : Prop :=
  IdealRules.bf16_pair.BufferStatement Cert.KernelIdeal.S128x2x128 Cert.KernelIdeal.S128x1x128
  ∧ IdealRules.bf16_pair.BufferStatement Cert.KernelIdeal.S64x2x4096 Cert.KernelIdeal.S64x1x4096
  ∧ IdealRules.named_const.Statement Cert.KernelIdeal.κ "reg_dv" .f32 0xC084B5DD#32 ((-2592 / 625 : ℝ) : EReal)
  ∧ IdealRules.bf16_pair.Statement Cert.KernelIdeal.S128x4096 Cert.KernelIdeal.S64x4096
  ∧ IdealRules.bf16_pair.Statement Cert.KernelIdeal.S64x2x4096 Cert.KernelIdeal.S64x1x4096
  ∧ IdealRules.named_const.Statement Cert.KernelIdeal.κ "jac" .f32 0x3E99999A#32 ((3 / 10 : ℝ) : EReal)
  ∧ IdealRules.truncf_extf.Statement Cert.KernelIdeal.S32x256 .f32 .bf16
  ∧ IdealRules.bf16_pair.Statement Cert.KernelIdeal.S256x128 Cert.KernelIdeal.S128x128
  ∧ IdealRules.bf16_pair.Statement Cert.KernelIdeal.S128x2x128 Cert.KernelIdeal.S128x1x128
  ∧ IdealRules.bf16_pair.Statement Cert.KernelIdeal.S64x2x256 Cert.KernelIdeal.S64x1x256
  ∧ IdealRules.bf16_pair.Statement Cert.KernelIdeal.S128x256 Cert.KernelIdeal.S64x256
  ∧ IdealRules.named_const.Statement Cert.KernelIdeal.κ "edge" .f32 0x3F31C71C#32 ((25 / 36 : ℝ) : EReal)

def algebraic_KernelIdeal_ReferenceIdeal_pre_scales_finite [hKernelIdeal : Cert.KernelIdeal.Facts] [hReferenceIdeal : Cert.ReferenceIdeal.Facts] [hPre_scales_finite : Cert.Pre_scales_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_scales_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v3_0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3_0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v5) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def preserves_Back_BackIdeal : Prop :=
  True

def algebraic_BackIdeal_BackReferenceIdeal [hBackIdeal : Cert.BackIdeal.Facts] [hBackReferenceIdeal : Cert.BackReferenceIdeal.Facts] : Prop :=
  ∀ (m : (ℓ : Loc Cert.BackIdeal.nD Cert.BackIdeal.τ Cert.BackIdeal.sig) → Buf (Elt Ideal) ℓ) (g : Dev Cert.BackIdeal.nD → PrngReg)
    (m' : (ℓ : Loc Cert.BackReferenceIdeal.nD Cert.BackReferenceIdeal.τ Cert.BackReferenceIdeal.sig) → Buf (Elt Ideal) ℓ) (g' : Dev Cert.BackReferenceIdeal.nD → PrngReg), Pre_BackIdeal m →
    (∀ c : Dev Cert.BackIdeal.nD,
      m' ((c.tc : Thread Cert.BackReferenceIdeal.nD Cert.BackReferenceIdeal.τ).loc Cert.BackReferenceIdeal.main_arg0) = m ((c.tc : Thread Cert.BackIdeal.nD Cert.BackIdeal.τ).loc Cert.BackIdeal.main_arg0)
      ∧ m' ((c.tc : Thread Cert.BackReferenceIdeal.nD Cert.BackReferenceIdeal.τ).loc Cert.BackReferenceIdeal.main_arg1) = m ((c.tc : Thread Cert.BackIdeal.nD Cert.BackIdeal.τ).loc Cert.BackIdeal.main_arg1)
      ∧ m' ((c.tc : Thread Cert.BackReferenceIdeal.nD Cert.BackReferenceIdeal.τ).loc Cert.BackReferenceIdeal.main_arg2) = m ((c.tc : Thread Cert.BackIdeal.nD Cert.BackIdeal.τ).loc Cert.BackIdeal.main_arg2)
      ∧ m' ((c.tc : Thread Cert.BackReferenceIdeal.nD Cert.BackReferenceIdeal.τ).loc Cert.BackReferenceIdeal.main_arg3) = m ((c.tc : Thread Cert.BackIdeal.nD Cert.BackIdeal.τ).loc Cert.BackIdeal.main_arg3)) →
    ∃ (v0 : (c : Dev Cert.BackIdeal.nD) → Buf (Elt Ideal) ((c.tc : Thread Cert.BackIdeal.nD Cert.BackIdeal.τ).loc Cert.BackIdeal.main_v0_0)) (v1 : (c : Dev Cert.BackIdeal.nD) → Buf (Elt Ideal) ((c.tc : Thread Cert.BackIdeal.nD Cert.BackIdeal.τ).loc Cert.BackIdeal.main_v0_1)),
      θ_run (Cert.BackIdeal.defs (F := Ideal)) (onTc (τ := Cert.BackIdeal.τ) (Cert.BackIdeal.main (F := Ideal))) ⟨m, fun _ => 0, g⟩ (fun r => ∀ c : Dev Cert.BackIdeal.nD,
          r.2.mem ((c.tc : Thread Cert.BackIdeal.nD Cert.BackIdeal.τ).loc Cert.BackIdeal.main_v0_0) = v0 c
          ∧ r.2.mem ((c.tc : Thread Cert.BackIdeal.nD Cert.BackIdeal.τ).loc Cert.BackIdeal.main_v0_1) = v1 c
          ∧ r.2.mem ((c.tc : Thread Cert.BackIdeal.nD Cert.BackIdeal.τ).loc Cert.BackIdeal.main_arg0) = m ((c.tc : Thread Cert.BackIdeal.nD Cert.BackIdeal.τ).loc Cert.BackIdeal.main_arg0)
          ∧ r.2.mem ((c.tc : Thread Cert.BackIdeal.nD Cert.BackIdeal.τ).loc Cert.BackIdeal.main_arg1) = m ((c.tc : Thread Cert.BackIdeal.nD Cert.BackIdeal.τ).loc Cert.BackIdeal.main_arg1)
          ∧ r.2.mem ((c.tc : Thread Cert.BackIdeal.nD Cert.BackIdeal.τ).loc Cert.BackIdeal.main_arg2) = m ((c.tc : Thread Cert.BackIdeal.nD Cert.BackIdeal.τ).loc Cert.BackIdeal.main_arg2)
          ∧ r.2.mem ((c.tc : Thread Cert.BackIdeal.nD Cert.BackIdeal.τ).loc Cert.BackIdeal.main_arg3) = m ((c.tc : Thread Cert.BackIdeal.nD Cert.BackIdeal.τ).loc Cert.BackIdeal.main_arg3))
      ∧ θ_run (Cert.BackReferenceIdeal.defs (F := Ideal)) (onTc (τ := Cert.BackReferenceIdeal.τ) (Cert.BackReferenceIdeal.main (F := Ideal))) ⟨m', fun _ => 0, g'⟩ (fun r => ∀ c : Dev Cert.BackReferenceIdeal.nD,
          r.2.mem ((c.tc : Thread Cert.BackReferenceIdeal.nD Cert.BackReferenceIdeal.τ).loc Cert.BackReferenceIdeal.main_v8) = v0 c
          ∧ r.2.mem ((c.tc : Thread Cert.BackReferenceIdeal.nD Cert.BackReferenceIdeal.τ).loc Cert.BackReferenceIdeal.main_v10) = v1 c
          ∧ r.2.mem ((c.tc : Thread Cert.BackReferenceIdeal.nD Cert.BackReferenceIdeal.τ).loc Cert.BackReferenceIdeal.main_arg0) = m' ((c.tc : Thread Cert.BackReferenceIdeal.nD Cert.BackReferenceIdeal.τ).loc Cert.BackReferenceIdeal.main_arg0)
          ∧ r.2.mem ((c.tc : Thread Cert.BackReferenceIdeal.nD Cert.BackReferenceIdeal.τ).loc Cert.BackReferenceIdeal.main_arg1) = m' ((c.tc : Thread Cert.BackReferenceIdeal.nD Cert.BackReferenceIdeal.τ).loc Cert.BackReferenceIdeal.main_arg1)
          ∧ r.2.mem ((c.tc : Thread Cert.BackReferenceIdeal.nD Cert.BackReferenceIdeal.τ).loc Cert.BackReferenceIdeal.main_arg2) = m' ((c.tc : Thread Cert.BackReferenceIdeal.nD Cert.BackReferenceIdeal.τ).loc Cert.BackReferenceIdeal.main_arg2)
          ∧ r.2.mem ((c.tc : Thread Cert.BackReferenceIdeal.nD Cert.BackReferenceIdeal.τ).loc Cert.BackReferenceIdeal.main_arg3) = m' ((c.tc : Thread Cert.BackReferenceIdeal.nD Cert.BackReferenceIdeal.τ).loc Cert.BackReferenceIdeal.main_arg3))

def preserves_Front_FrontIdeal : Prop :=
  True

def algebraic_FrontIdeal_FrontReferenceIdeal [hFrontIdeal : Cert.FrontIdeal.Facts] [hFrontReferenceIdeal : Cert.FrontReferenceIdeal.Facts] : Prop :=
  ∀ (m : (ℓ : Loc Cert.FrontIdeal.nD Cert.FrontIdeal.τ Cert.FrontIdeal.sig) → Buf (Elt Ideal) ℓ) (g : Dev Cert.FrontIdeal.nD → PrngReg)
    (m' : (ℓ : Loc Cert.FrontReferenceIdeal.nD Cert.FrontReferenceIdeal.τ Cert.FrontReferenceIdeal.sig) → Buf (Elt Ideal) ℓ) (g' : Dev Cert.FrontReferenceIdeal.nD → PrngReg), Pre_FrontIdeal m →
    (∀ c : Dev Cert.FrontIdeal.nD,
      m' ((c.tc : Thread Cert.FrontReferenceIdeal.nD Cert.FrontReferenceIdeal.τ).loc Cert.FrontReferenceIdeal.main_arg0) = m ((c.tc : Thread Cert.FrontIdeal.nD Cert.FrontIdeal.τ).loc Cert.FrontIdeal.main_arg0)
      ∧ m' ((c.tc : Thread Cert.FrontReferenceIdeal.nD Cert.FrontReferenceIdeal.τ).loc Cert.FrontReferenceIdeal.main_arg1) = m ((c.tc : Thread Cert.FrontIdeal.nD Cert.FrontIdeal.τ).loc Cert.FrontIdeal.main_arg1)
      ∧ m' ((c.tc : Thread Cert.FrontReferenceIdeal.nD Cert.FrontReferenceIdeal.τ).loc Cert.FrontReferenceIdeal.main_arg2) = m ((c.tc : Thread Cert.FrontIdeal.nD Cert.FrontIdeal.τ).loc Cert.FrontIdeal.main_arg2)
      ∧ m' ((c.tc : Thread Cert.FrontReferenceIdeal.nD Cert.FrontReferenceIdeal.τ).loc Cert.FrontReferenceIdeal.main_arg3) = m ((c.tc : Thread Cert.FrontIdeal.nD Cert.FrontIdeal.τ).loc Cert.FrontIdeal.main_arg3)) →
    ∃ (v0 : (c : Dev Cert.FrontIdeal.nD) → Buf (Elt Ideal) ((c.tc : Thread Cert.FrontIdeal.nD Cert.FrontIdeal.τ).loc Cert.FrontIdeal.main_v0_0)),
      θ_run (Cert.FrontIdeal.defs (F := Ideal)) (onTc (τ := Cert.FrontIdeal.τ) (Cert.FrontIdeal.main (F := Ideal))) ⟨m, fun _ => 0, g⟩ (fun r => ∀ c : Dev Cert.FrontIdeal.nD,
          r.2.mem ((c.tc : Thread Cert.FrontIdeal.nD Cert.FrontIdeal.τ).loc Cert.FrontIdeal.main_v0_0) = v0 c
          ∧ r.2.mem ((c.tc : Thread Cert.FrontIdeal.nD Cert.FrontIdeal.τ).loc Cert.FrontIdeal.main_arg0) = m ((c.tc : Thread Cert.FrontIdeal.nD Cert.FrontIdeal.τ).loc Cert.FrontIdeal.main_arg0)
          ∧ r.2.mem ((c.tc : Thread Cert.FrontIdeal.nD Cert.FrontIdeal.τ).loc Cert.FrontIdeal.main_arg1) = m ((c.tc : Thread Cert.FrontIdeal.nD Cert.FrontIdeal.τ).loc Cert.FrontIdeal.main_arg1)
          ∧ r.2.mem ((c.tc : Thread Cert.FrontIdeal.nD Cert.FrontIdeal.τ).loc Cert.FrontIdeal.main_arg2) = m ((c.tc : Thread Cert.FrontIdeal.nD Cert.FrontIdeal.τ).loc Cert.FrontIdeal.main_arg2)
          ∧ r.2.mem ((c.tc : Thread Cert.FrontIdeal.nD Cert.FrontIdeal.τ).loc Cert.FrontIdeal.main_arg3) = m ((c.tc : Thread Cert.FrontIdeal.nD Cert.FrontIdeal.τ).loc Cert.FrontIdeal.main_arg3))
      ∧ θ_run (Cert.FrontReferenceIdeal.defs (F := Ideal)) (onTc (τ := Cert.FrontReferenceIdeal.τ) (Cert.FrontReferenceIdeal.main (F := Ideal))) ⟨m', fun _ => 0, g'⟩ (fun r => ∀ c : Dev Cert.FrontReferenceIdeal.nD,
          r.2.mem ((c.tc : Thread Cert.FrontReferenceIdeal.nD Cert.FrontReferenceIdeal.τ).loc Cert.FrontReferenceIdeal.main_v7) = v0 c
          ∧ r.2.mem ((c.tc : Thread Cert.FrontReferenceIdeal.nD Cert.FrontReferenceIdeal.τ).loc Cert.FrontReferenceIdeal.main_arg0) = m' ((c.tc : Thread Cert.FrontReferenceIdeal.nD Cert.FrontReferenceIdeal.τ).loc Cert.FrontReferenceIdeal.main_arg0)
          ∧ r.2.mem ((c.tc : Thread Cert.FrontReferenceIdeal.nD Cert.FrontReferenceIdeal.τ).loc Cert.FrontReferenceIdeal.main_arg1) = m' ((c.tc : Thread Cert.FrontReferenceIdeal.nD Cert.FrontReferenceIdeal.τ).loc Cert.FrontReferenceIdeal.main_arg1)
          ∧ r.2.mem ((c.tc : Thread Cert.FrontReferenceIdeal.nD Cert.FrontReferenceIdeal.τ).loc Cert.FrontReferenceIdeal.main_arg2) = m' ((c.tc : Thread Cert.FrontReferenceIdeal.nD Cert.FrontReferenceIdeal.τ).loc Cert.FrontReferenceIdeal.main_arg2)
          ∧ r.2.mem ((c.tc : Thread Cert.FrontReferenceIdeal.nD Cert.FrontReferenceIdeal.τ).loc Cert.FrontReferenceIdeal.main_arg3) = m' ((c.tc : Thread Cert.FrontReferenceIdeal.nD Cert.FrontReferenceIdeal.τ).loc Cert.FrontReferenceIdeal.main_arg3))

def Claim : Prop :=
  ∃ (hKernel : Cert.Kernel.Facts) (hKernelIdeal : Cert.KernelIdeal.Facts) (hReferenceIdeal : Cert.ReferenceIdeal.Facts) (hBack : Cert.Back.Facts) (hBackIdeal : Cert.BackIdeal.Facts) (hBackReferenceIdeal : Cert.BackReferenceIdeal.Facts) (hFront : Cert.Front.Facts) (hFrontIdeal : Cert.FrontIdeal.Facts) (hFrontReferenceIdeal : Cert.FrontReferenceIdeal.Facts) (hPre_scales_finite : Cert.Pre_scales_finite.Facts),
    quiescent_Kernel (hKernel := hKernel)
    ∧ quiescent_KernelIdeal (hKernelIdeal := hKernelIdeal)
    ∧ quiescent_KernelIdeal_pre_scales_finite (hKernelIdeal := hKernelIdeal) (hPre_scales_finite := hPre_scales_finite)
    ∧ quiescent_ReferenceIdeal (hReferenceIdeal := hReferenceIdeal)
    ∧ quiescent_ReferenceIdeal_pre_scales_finite (hReferenceIdeal := hReferenceIdeal) (hPre_scales_finite := hPre_scales_finite)
    ∧ quiescent_Back (hBack := hBack)
    ∧ quiescent_BackIdeal (hBackIdeal := hBackIdeal)
    ∧ quiescent_BackReferenceIdeal (hBackReferenceIdeal := hBackReferenceIdeal)
    ∧ quiescent_Front (hFront := hFront)
    ∧ quiescent_FrontIdeal (hFrontIdeal := hFrontIdeal)
    ∧ quiescent_FrontReferenceIdeal (hFrontReferenceIdeal := hFrontReferenceIdeal)
    ∧ preserves_Kernel_KernelIdeal
    ∧ algebraic_KernelIdeal_ReferenceIdeal_pre_scales_finite (hKernelIdeal := hKernelIdeal) (hReferenceIdeal := hReferenceIdeal) (hPre_scales_finite := hPre_scales_finite)
    ∧ preserves_Back_BackIdeal
    ∧ algebraic_BackIdeal_BackReferenceIdeal (hBackIdeal := hBackIdeal) (hBackReferenceIdeal := hBackReferenceIdeal)
    ∧ preserves_Front_FrontIdeal
    ∧ algebraic_FrontIdeal_FrontReferenceIdeal (hFrontIdeal := hFrontIdeal) (hFrontReferenceIdeal := hFrontReferenceIdeal)
-- ==== Pre_scales_finite.lean ====
abbrev S3 : Shape := ⟨1, ![3]⟩
abbrev S1792x2048 : Shape := ⟨2, ![1792, 2048]⟩
abbrev S2048x4096 : Shape := ⟨2, ![2048, 4096]⟩
abbrev S3584x4096 : Shape := ⟨2, ![3584, 4096]⟩
abbrev S3584x32 : Shape := ⟨2, ![3584, 32]⟩
abbrev S_ : Shape := ⟨0, ![]⟩

class Facts : Prop where
  bcast_S_S3584x32 : S_.BroadcastsInDim S3584x32 (![] : Fin 0 → Fin S3584x32.rank)

variable [Facts]

def fn {F : FTy → Type} [FloatOps F] (main_arg0 : FVec F S3 .f32) (main_arg1 : IVec S1792x2048 32) (main_arg2 : FVec F S2048x4096 .fp8e4m3) (main_arg3 : FVec F S3584x4096 .bf16) (main_arg4 : IVec S3584x4096 8) (main_arg5 : IVec S3584x4096 8) (main_arg6 : IVec S3584x4096 8) (main_arg7 : FVec F S3584x32 .f32) (main_arg8 : FVec F S3584x32 .f32) (main_arg9 : FVec F S3584x32 .f32) : IVec S3584x32 1 :=
  let main_v0 : FVec F S3584x32 .f32 := Host.absf main_arg7
  let main_cst : FVec F S_ .f32 := constant S_ .f32 0x7F800000#32
  let main_v1 : FVec F S3584x32 .f32 := broadcastInDim S3584x32 ![] bcast_S_S3584x32 main_cst
  let main_v2 : IVec S3584x32 1 := cmpf .olt main_v0 main_v1
  main_v2
-- ==== Kernel.lean ====
abbrev S3 : Shape := ⟨1, ![3]⟩
abbrev S1792x2048 : Shape := ⟨2, ![1792, 2048]⟩
abbrev S2048x4096 : Shape := ⟨2, ![2048, 4096]⟩
abbrev S3584x4096 : Shape := ⟨2, ![3584, 4096]⟩
abbrev S3584x32 : Shape := ⟨2, ![3584, 32]⟩
abbrev S32x3584 : Shape := ⟨2, ![32, 3584]⟩
abbrev S128x2048 : Shape := ⟨2, ![128, 2048]⟩
abbrev S256x1024 : Shape := ⟨2, ![256, 1024]⟩
abbrev S32x256 : Shape := ⟨2, ![32, 256]⟩
abbrev S128x128 : Shape := ⟨2, ![128, 128]⟩
abbrev S64x4096 : Shape := ⟨2, ![64, 4096]⟩
abbrev S256x128 : Shape := ⟨2, ![256, 128]⟩
abbrev S1 : Shape := ⟨1, ![1]⟩
abbrev S128x4096 : Shape := ⟨2, ![128, 4096]⟩
abbrev S128x256 : Shape := ⟨2, ![128, 256]⟩
abbrev S2048x256 : Shape := ⟨2, ![2048, 256]⟩
abbrev S64x256 : Shape := ⟨2, ![64, 256]⟩
abbrev S256x2048 : Shape := ⟨2, ![256, 2048]⟩
abbrev S256x256 : Shape := ⟨2, ![256, 256]⟩
abbrev S32x128 : Shape := ⟨2, ![32, 128]⟩
abbrev S32 : Shape := ⟨1, ![32]⟩
abbrev S32x1 : Shape := ⟨2, ![32, 1]⟩

abbrev nBuf : Space → Nat
  | .hbm => 19
  | .vmem => 41
  | .smem => 1
  | _ => 0

abbrev bufTy : (tb : Table) → Fin (tcTables nBuf tb) → BufTy
  | .hbm, ⟨0, _⟩ => ⟨S3, .f32⟩
  | .hbm, ⟨1, _⟩ => ⟨S1792x2048, .i32⟩
  | .hbm, ⟨2, _⟩ => ⟨S2048x4096, .fp8e4m3⟩
  | .hbm, ⟨3, _⟩ => ⟨S3584x4096, .bf16⟩
  | .hbm, ⟨4, _⟩ => ⟨S3584x4096, .i8⟩
  | .hbm, ⟨5, _⟩ => ⟨S3584x4096, .i8⟩
  | .hbm, ⟨6, _⟩ => ⟨S3584x4096, .i8⟩
  | .hbm, ⟨7, _⟩ => ⟨S3584x32, .f32⟩
  | .hbm, ⟨8, _⟩ => ⟨S3584x32, .f32⟩
  | .hbm, ⟨9, _⟩ => ⟨S3584x32, .f32⟩
  | .hbm, ⟨10, _⟩ => ⟨S32x3584, .f32⟩
  | .hbm, ⟨11, _⟩ => ⟨S32x3584, .f32⟩
  | .hbm, ⟨12, _⟩ => ⟨S32x3584, .f32⟩
  | .hbm, ⟨13, _⟩ => ⟨S3584x4096, .f32⟩
  | .hbm, ⟨14, _⟩ => ⟨S3584x4096, .bf16⟩
  | .hbm, ⟨15, _⟩ => ⟨S3584x4096, .i8⟩
  | .hbm, ⟨16, _⟩ => ⟨S3584x4096, .i8⟩
  | .hbm, ⟨17, _⟩ => ⟨S32x3584, .f32⟩
  | .hbm, ⟨18, _⟩ => ⟨S32x3584, .f32⟩
  | .local _ .vmem, ⟨0, _⟩ => ⟨S128x2048, .i32⟩
  | .local _ .vmem, ⟨1, _⟩ => ⟨S128x2048, .i32⟩
  | .local _ .vmem, ⟨2, _⟩ => ⟨S2048x4096, .fp8e4m3⟩
  | .local _ .vmem, ⟨3, _⟩ => ⟨S256x1024, .bf16⟩
  | .local _ .vmem, ⟨4, _⟩ => ⟨S256x1024, .bf16⟩
  | .local _ .vmem, ⟨5, _⟩ => ⟨S256x1024, .i8⟩
  | .local _ .vmem, ⟨6, _⟩ => ⟨S256x1024, .i8⟩
  | .local _ .vmem, ⟨7, _⟩ => ⟨S256x1024, .i8⟩
  | .local _ .vmem, ⟨8, _⟩ => ⟨S256x1024, .i8⟩
  | .local _ .vmem, ⟨9, _⟩ => ⟨S256x1024, .i8⟩
  | .local _ .vmem, ⟨10, _⟩ => ⟨S256x1024, .i8⟩
  | .local _ .vmem, ⟨11, _⟩ => ⟨S32x256, .f32⟩
  | .local _ .vmem, ⟨12, _⟩ => ⟨S32x256, .f32⟩
  | .local _ .vmem, ⟨13, _⟩ => ⟨S32x256, .f32⟩
  | .local _ .vmem, ⟨14, _⟩ => ⟨S32x256, .f32⟩
  | .local _ .vmem, ⟨15, _⟩ => ⟨S32x256, .f32⟩
  | .local _ .vmem, ⟨16, _⟩ => ⟨S32x256, .f32⟩
  | .local _ .vmem, ⟨17, _⟩ => ⟨S256x1024, .f32⟩
  | .local _ .vmem, ⟨18, _⟩ => ⟨S256x1024, .f32⟩
  | .local _ .vmem, ⟨19, _⟩ => ⟨S256x1024, .bf16⟩
  | .local _ .vmem, ⟨20, _⟩ => ⟨S256x1024, .bf16⟩
  | .local _ .vmem, ⟨21, _⟩ => ⟨S256x1024, .i8⟩
  | .local _ .vmem, ⟨22, _⟩ => ⟨S256x1024, .i8⟩
  | .local _ .vmem, ⟨23, _⟩ => ⟨S256x1024, .i8⟩
  | .local _ .vmem, ⟨24, _⟩ => ⟨S256x1024, .i8⟩
  | .local _ .vmem, ⟨25, _⟩ => ⟨S32x256, .f32⟩
  | .local _ .vmem, ⟨26, _⟩ => ⟨S32x256, .f32⟩
  | .local _ .vmem, ⟨27, _⟩ => ⟨S32x256, .f32⟩
  | .local _ .vmem, ⟨28, _⟩ => ⟨S32x256, .f32⟩
  | .local _ .vmem, ⟨29, _⟩ => ⟨S128x128, .i32⟩
  | .local _ .vmem, ⟨30, _⟩ => ⟨S128x128, .i32⟩
  | .local _ .vmem, ⟨31, _⟩ => ⟨S128x128, .i32⟩
  | .local _ .vmem, ⟨32, _⟩ => ⟨S64x4096, .i32⟩
  | .local _ .vmem, ⟨33, _⟩ => ⟨S256x1024, .f32⟩
  | .local _ .vmem, ⟨34, _⟩ => ⟨S256x1024, .f32⟩
  | .local _ .vmem, ⟨35, _⟩ => ⟨S256x1024, .f32⟩
  | .local _ .vmem, ⟨36, _⟩ => ⟨S256x1024, .f32⟩
  | .local _ .vmem, ⟨37, _⟩ => ⟨S256x128, .f32⟩
  | .local _ .vmem, ⟨38, _⟩ => ⟨S256x128, .f32⟩
  | .local _ .vmem, ⟨39, _⟩ => ⟨S256x128, .f32⟩
  | .local _ .vmem, ⟨40, _⟩ => ⟨S256x128, .f32⟩
  | .local _ .smem, ⟨0, _⟩ => ⟨S3, .f32⟩
  | _, _ => ⟨S3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .smem, ⟨0, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3_0 : Ref sig .tc := ⟨.hbm, 13, rfl⟩
abbrev main_v3_1 : Ref sig .tc := ⟨.hbm, 14, rfl⟩
abbrev main_v3_2 : Ref sig .tc := ⟨.hbm, 15, rfl⟩
abbrev main_v3_3 : Ref sig .tc := ⟨.hbm, 16, rfl⟩
abbrev main_v3_4 : Ref sig .tc := ⟨.hbm, 17, rfl⟩
abbrev main_v3_5 : Ref sig .tc := ⟨.hbm, 18, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg3_1 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_stg11_0 : Ref sig .tc := ⟨.vmem, 19, rfl⟩
abbrev cc0_stg11_1 : Ref sig .tc := ⟨.vmem, 20, rfl⟩
abbrev cc0_stg12_0 : Ref sig .tc := ⟨.vmem, 21, rfl⟩
abbrev cc0_stg12_1 : Ref sig .tc := ⟨.vmem, 22, rfl⟩
abbrev cc0_stg13_0 : Ref sig .tc := ⟨.vmem, 23, rfl⟩
abbrev cc0_stg13_1 : Ref sig .tc := ⟨.vmem, 24, rfl⟩
abbrev cc0_stg14_0 : Ref sig .tc := ⟨.vmem, 25, rfl⟩
abbrev cc0_stg14_1 : Ref sig .tc := ⟨.vmem, 26, rfl⟩
abbrev cc0_stg15_0 : Ref sig .tc := ⟨.vmem, 27, rfl⟩
abbrev cc0_stg15_1 : Ref sig .tc := ⟨.vmem, 28, rfl⟩
abbrev cc0_scratch0 : Ref sig .tc := ⟨.vmem, 29, rfl⟩
abbrev cc0_scratch1 : Ref sig .tc := ⟨.vmem, 30, rfl⟩
abbrev cc0_scratch2 : Ref sig .tc := ⟨.vmem, 31, rfl⟩
abbrev cc0_scratch3 : Ref sig .tc := ⟨.vmem, 32, rfl⟩
abbrev cc0_scratch4 : Ref sig .tc := ⟨.vmem, 33, rfl⟩
abbrev cc0_scratch5 : Ref sig .tc := ⟨.vmem, 34, rfl⟩
abbrev cc0_scratch6 : Ref sig .tc := ⟨.vmem, 35, rfl⟩
abbrev cc0_scratch7 : Ref sig .tc := ⟨.vmem, 36, rfl⟩
abbrev cc0_scratch8 : Ref sig .tc := ⟨.vmem, 37, rfl⟩
abbrev cc0_scratch9 : Ref sig .tc := ⟨.vmem, 38, rfl⟩
abbrev cc0_scratch10 : Ref sig .tc := ⟨.vmem, 39, rfl⟩
abbrev cc0_scratch11 : Ref sig .tc := ⟨.vmem, 40, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem10_1 : DmaSem sig := 19
abbrev cc0_sem11_0 : DmaSem sig := 20
abbrev cc0_sem11_1 : DmaSem sig := 21
abbrev cc0_sem12_0 : DmaSem sig := 22
abbrev cc0_sem12_1 : DmaSem sig := 23
abbrev cc0_sem13_0 : DmaSem sig := 24
abbrev cc0_sem13_1 : DmaSem sig := 25
abbrev cc0_sem14_0 : DmaSem sig := 26
abbrev cc0_sem14_1 : DmaSem sig := 27
abbrev cc0_sem15_0 : DmaSem sig := 28
abbrev cc0_sem15_1 : DmaSem sig := 29

abbrev nD : Nat := 1
abbrev τ : Topo := Topo.v7x

variable {F : FTy → Type} [BitOps F]

abbrev grid0 : Pipeline.Grid := ⟨2, ![14, 4], ![false, false]⟩

def k0_mult1 (i : grid0.Coords) : BitVec 32 :=
  let arg1 : BitVec 32 := BitVec.ofNat 32 (i 1).val
  let c1024_i32 : BitVec 32 := 1024#32
  let v12 : BitVec 32 := Scalar.muli arg1 c1024_i32
  let c0_i32_4 : BitVec 32 := 0#32
  let v13 : BitVec 32 := Scalar.addi v12 c0_i32_4
  v13
def k0_off1 (i : grid0.Coords) (c0_i32_4 : BitVec 32) : Fin 2 → Nat :=
  let c0_5 : Index := 0#32
  let arg1 : BitVec 32 := BitVec.ofNat 32 (i 1).val
  let c1024_i32 : BitVec 32 := 1024#32
  let v12 : BitVec 32 := Scalar.muli arg1 c1024_i32
  let v13 : BitVec 32 := Scalar.addi v12 c0_i32_4
  let v14 : BitVec 32 := v13
  let v15 : Index := Scalar.indexCast v14
  ![0, v15.toNat]
def k0_off2 (i : grid0.Coords) (c0_i32_4 : BitVec 32) : Fin 2 → Nat :=
  let c0_6 : Index := 0#32
  let arg1 : BitVec 32 := BitVec.ofNat 32 (i 1).val
  let c1024_i32 : BitVec 32 := 1024#32
  let v12 : BitVec 32 := Scalar.muli arg1 c1024_i32
  let v13 : BitVec 32 := Scalar.addi v12 c0_i32_4
  let v14 : BitVec 32 := v13
  let v17 : Index := Scalar.indexCast v14
  ![0, v17.toNat]
def k0_mult2 (i : grid0.Coords) : BitVec 32 :=
  let arg1 : BitVec 32 := BitVec.ofNat 32 (i 1).val
  let c1024_i32_356 : BitVec 32 := 1024#32
  let v872 : BitVec 32 := Scalar.muli arg1 c1024_i32_356
  let c256_i32 : BitVec 32 := 256#32
  let v873 : BitVec 32 := Scalar.addi v872 c256_i32
  v873
def k0_mult3 (i : grid0.Coords) : BitVec 32 :=
  let arg1 : BitVec 32 := BitVec.ofNat 32 (i 1).val
  let c1024_i32_864 : BitVec 32 := 1024#32
  let v1948 : BitVec 32 := Scalar.muli arg1 c1024_i32_864
  let c512_i32 : BitVec 32 := 512#32
  let v1949 : BitVec 32 := Scalar.addi v1948 c512_i32
  v1949
def k0_mult4 (i : grid0.Coords) : BitVec 32 :=
  let arg1 : BitVec 32 := BitVec.ofNat 32 (i 1).val
  let c1024_i32_1371 : BitVec 32 := 1024#32
  let v3024 : BitVec 32 := Scalar.muli arg1 c1024_i32_1371
  let c768_i32 : BitVec 32 := 768#32
  let v3025 : BitVec 32 := Scalar.addi v3024 c768_i32
  v3025
def k0_cond3 (i : grid0.Coords) : BitVec 1 :=
  let arg1 : BitVec 32 := BitVec.ofNat 32 (i 1).val
  let c3_i32 : BitVec 32 := 3#32
  let v4363 : BitVec 1 := Scalar.cmpi .eq arg1 c3_i32
  let v4364 : BitVec 32 := Scalar.extui v4363
  let c0_i32_2057 : BitVec 32 := 0#32
  let v4365 : BitVec 1 := Scalar.cmpi .ne v4364 c0_i32_2057
  v4365

def cc0_transform_0 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_15 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 1 → Memref sig .tc .smem S3 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S128x2048 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S2048x4096 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S256x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S256x1024 .i8 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S256x1024 .i8 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S256x1024 .i8 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S32x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S32x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S32x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 2 → Memref sig .tc .vmem S256x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S256x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S256x1024 .i8 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S256x1024 .i8 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S32x256 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, false]

abbrev stage0_15 : Fin 2 → Memref sig .tc .vmem S32x256 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, false]
-- ==== KernelIdeal.lean ====
abbrev S3 : Shape := ⟨1, ![3]⟩
abbrev S1792x2048 : Shape := ⟨2, ![1792, 2048]⟩
abbrev S2048x4096 : Shape := ⟨2, ![2048, 4096]⟩
abbrev S3584x4096 : Shape := ⟨2, ![3584, 4096]⟩
abbrev S3584x32 : Shape := ⟨2, ![3584, 32]⟩
abbrev S32x3584 : Shape := ⟨2, ![32, 3584]⟩
abbrev S128x2048 : Shape := ⟨2, ![128, 2048]⟩
abbrev S256x1024 : Shape := ⟨2, ![256, 1024]⟩
abbrev S32x256 : Shape := ⟨2, ![32, 256]⟩
abbrev S128x128 : Shape := ⟨2, ![128, 128]⟩
abbrev S128x2x128 : Shape := ⟨3, ![128, 2, 128]⟩
abbrev S128x1x128 : Shape := ⟨3, ![128, 1, 128]⟩
abbrev S64x4096 : Shape := ⟨2, ![64, 4096]⟩
abbrev S64x2x4096 : Shape := ⟨3, ![64, 2, 4096]⟩
abbrev S64x1x4096 : Shape := ⟨3, ![64, 1, 4096]⟩
abbrev S256x128 : Shape := ⟨2, ![256, 128]⟩
abbrev S1 : Shape := ⟨1, ![1]⟩
abbrev S128x4096 : Shape := ⟨2, ![128, 4096]⟩
abbrev S128x256 : Shape := ⟨2, ![128, 256]⟩
abbrev S2048x256 : Shape := ⟨2, ![2048, 256]⟩
abbrev S64x256 : Shape := ⟨2, ![64, 256]⟩
abbrev S64x2x256 : Shape := ⟨3, ![64, 2, 256]⟩
abbrev S64x1x256 : Shape := ⟨3, ![64, 1, 256]⟩
abbrev S256x2048 : Shape := ⟨2, ![256, 2048]⟩
abbrev S256x256 : Shape := ⟨2, ![256, 256]⟩
abbrev S32x128 : Shape := ⟨2, ![32, 128]⟩
abbrev S32 : Shape := ⟨1, ![32]⟩
abbrev S32x1 : Shape := ⟨2, ![32, 1]⟩

abbrev nBuf : Space → Nat
  | .hbm => 19
  | .vmem => 41
  | .smem => 1
  | _ => 0

abbrev bufTy : (tb : Table) → Fin (tcTables nBuf tb) → BufTy
  | .hbm, ⟨0, _⟩ => ⟨S3, .f32⟩
  | .hbm, ⟨1, _⟩ => ⟨S1792x2048, .i32⟩
  | .hbm, ⟨2, _⟩ => ⟨S2048x4096, .fp8e4m3⟩
  | .hbm, ⟨3, _⟩ => ⟨S3584x4096, .bf16⟩
  | .hbm, ⟨4, _⟩ => ⟨S3584x4096, .i8⟩
  | .hbm, ⟨5, _⟩ => ⟨S3584x4096, .i8⟩
  | .hbm, ⟨6, _⟩ => ⟨S3584x4096, .i8⟩
  | .hbm, ⟨7, _⟩ => ⟨S3584x32, .f32⟩
  | .hbm, ⟨8, _⟩ => ⟨S3584x32, .f32⟩
  | .hbm, ⟨9, _⟩ => ⟨S3584x32, .f32⟩
  | .hbm, ⟨10, _⟩ => ⟨S32x3584, .f32⟩
  | .hbm, ⟨11, _⟩ => ⟨S32x3584, .f32⟩
  | .hbm, ⟨12, _⟩ => ⟨S32x3584, .f32⟩
  | .hbm, ⟨13, _⟩ => ⟨S3584x4096, .f32⟩
  | .hbm, ⟨14, _⟩ => ⟨S3584x4096, .bf16⟩
  | .hbm, ⟨15, _⟩ => ⟨S3584x4096, .i8⟩
  | .hbm, ⟨16, _⟩ => ⟨S3584x4096, .i8⟩
  | .hbm, ⟨17, _⟩ => ⟨S32x3584, .f32⟩
  | .hbm, ⟨18, _⟩ => ⟨S32x3584, .f32⟩
  | .local _ .vmem, ⟨0, _⟩ => ⟨S128x2048, .i32⟩
  | .local _ .vmem, ⟨1, _⟩ => ⟨S128x2048, .i32⟩
  | .local _ .vmem, ⟨2, _⟩ => ⟨S2048x4096, .fp8e4m3⟩
  | .local _ .vmem, ⟨3, _⟩ => ⟨S256x1024, .bf16⟩
  | .local _ .vmem, ⟨4, _⟩ => ⟨S256x1024, .bf16⟩
  | .local _ .vmem, ⟨5, _⟩ => ⟨S256x1024, .i8⟩
  | .local _ .vmem, ⟨6, _⟩ => ⟨S256x1024, .i8⟩
  | .local _ .vmem, ⟨7, _⟩ => ⟨S256x1024, .i8⟩
  | .local _ .vmem, ⟨8, _⟩ => ⟨S256x1024, .i8⟩
  | .local _ .vmem, ⟨9, _⟩ => ⟨S256x1024, .i8⟩
  | .local _ .vmem, ⟨10, _⟩ => ⟨S256x1024, .i8⟩
  | .local _ .vmem, ⟨11, _⟩ => ⟨S32x256, .f32⟩
  | .local _ .vmem, ⟨12, _⟩ => ⟨S32x256, .f32⟩
  | .local _ .vmem, ⟨13, _⟩ => ⟨S32x256, .f32⟩
  | .local _ .vmem, ⟨14, _⟩ => ⟨S32x256, .f32⟩
  | .local _ .vmem, ⟨15, _⟩ => ⟨S32x256, .f32⟩
  | .local _ .vmem, ⟨16, _⟩ => ⟨S32x256, .f32⟩
  | .local _ .vmem, ⟨17, _⟩ => ⟨S256x1024, .f32⟩
  | .local _ .vmem, ⟨18, _⟩ => ⟨S256x1024, .f32⟩
  | .local _ .vmem, ⟨19, _⟩ => ⟨S256x1024, .bf16⟩
  | .local _ .vmem, ⟨20, _⟩ => ⟨S256x1024, .bf16⟩
  | .local _ .vmem, ⟨21, _⟩ => ⟨S256x1024, .i8⟩
  | .local _ .vmem, ⟨22, _⟩ => ⟨S256x1024, .i8⟩
  | .local _ .vmem, ⟨23, _⟩ => ⟨S256x1024, .i8⟩
  | .local _ .vmem, ⟨24, _⟩ => ⟨S256x1024, .i8⟩
  | .local _ .vmem, ⟨25, _⟩ => ⟨S32x256, .f32⟩
  | .local _ .vmem, ⟨26, _⟩ => ⟨S32x256, .f32⟩
  | .local _ .vmem, ⟨27, _⟩ => ⟨S32x256, .f32⟩
  | .local _ .vmem, ⟨28, _⟩ => ⟨S32x256, .f32⟩
  | .local _ .vmem, ⟨29, _⟩ => ⟨S128x2x128, .bf16⟩
  | .local _ .vmem, ⟨30, _⟩ => ⟨S128x2x128, .bf16⟩
  | .local _ .vmem, ⟨31, _⟩ => ⟨S128x2x128, .bf16⟩
  | .local _ .vmem, ⟨32, _⟩ => ⟨S64x2x4096, .bf16⟩
  | .local _ .vmem, ⟨33, _⟩ => ⟨S256x1024, .f32⟩
  | .local _ .vmem, ⟨34, _⟩ => ⟨S256x1024, .f32⟩
  | .local _ .vmem, ⟨35, _⟩ => ⟨S256x1024, .f32⟩
  | .local _ .vmem, ⟨36, _⟩ => ⟨S256x1024, .f32⟩
  | .local _ .vmem, ⟨37, _⟩ => ⟨S256x128, .f32⟩
  | .local _ .vmem, ⟨38, _⟩ => ⟨S256x128, .f32⟩
  | .local _ .vmem, ⟨39, _⟩ => ⟨S256x128, .f32⟩
  | .local _ .vmem, ⟨40, _⟩ => ⟨S256x128, .f32⟩
  | .local _ .smem, ⟨0, _⟩ => ⟨S3, .f32⟩
  | _, _ => ⟨S3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .smem, ⟨0, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3_0 : Ref sig .tc := ⟨.hbm, 13, rfl⟩
abbrev main_v3_1 : Ref sig .tc := ⟨.hbm, 14, rfl⟩
abbrev main_v3_2 : Ref sig .tc := ⟨.hbm, 15, rfl⟩
abbrev main_v3_3 : Ref sig .tc := ⟨.hbm, 16, rfl⟩
abbrev main_v3_4 : Ref sig .tc := ⟨.hbm, 17, rfl⟩
abbrev main_v3_5 : Ref sig .tc := ⟨.hbm, 18, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg3_1 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_stg11_0 : Ref sig .tc := ⟨.vmem, 19, rfl⟩
abbrev cc0_stg11_1 : Ref sig .tc := ⟨.vmem, 20, rfl⟩
abbrev cc0_stg12_0 : Ref sig .tc := ⟨.vmem, 21, rfl⟩
abbrev cc0_stg12_1 : Ref sig .tc := ⟨.vmem, 22, rfl⟩
abbrev cc0_stg13_0 : Ref sig .tc := ⟨.vmem, 23, rfl⟩
abbrev cc0_stg13_1 : Ref sig .tc := ⟨.vmem, 24, rfl⟩
abbrev cc0_stg14_0 : Ref sig .tc := ⟨.vmem, 25, rfl⟩
abbrev cc0_stg14_1 : Ref sig .tc := ⟨.vmem, 26, rfl⟩
abbrev cc0_stg15_0 : Ref sig .tc := ⟨.vmem, 27, rfl⟩
abbrev cc0_stg15_1 : Ref sig .tc := ⟨.vmem, 28, rfl⟩
abbrev cc0_scratch0 : Ref sig .tc := ⟨.vmem, 29, rfl⟩
abbrev cc0_scratch1 : Ref sig .tc := ⟨.vmem, 30, rfl⟩
abbrev cc0_scratch2 : Ref sig .tc := ⟨.vmem, 31, rfl⟩
abbrev cc0_scratch3 : Ref sig .tc := ⟨.vmem, 32, rfl⟩
abbrev cc0_scratch4 : Ref sig .tc := ⟨.vmem, 33, rfl⟩
abbrev cc0_scratch5 : Ref sig .tc := ⟨.vmem, 34, rfl⟩
abbrev cc0_scratch6 : Ref sig .tc := ⟨.vmem, 35, rfl⟩
abbrev cc0_scratch7 : Ref sig .tc := ⟨.vmem, 36, rfl⟩
abbrev cc0_scratch8 : Ref sig .tc := ⟨.vmem, 37, rfl⟩
abbrev cc0_scratch9 : Ref sig .tc := ⟨.vmem, 38, rfl⟩
abbrev cc0_scratch10 : Ref sig .tc := ⟨.vmem, 39, rfl⟩
abbrev cc0_scratch11 : Ref sig .tc := ⟨.vmem, 40, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem10_1 : DmaSem sig := 19
abbrev cc0_sem11_0 : DmaSem sig := 20
abbrev cc0_sem11_1 : DmaSem sig := 21
abbrev cc0_sem12_0 : DmaSem sig := 22
abbrev cc0_sem12_1 : DmaSem sig := 23
abbrev cc0_sem13_0 : DmaSem sig := 24
abbrev cc0_sem13_1 : DmaSem sig := 25
abbrev cc0_sem14_0 : DmaSem sig := 26
abbrev cc0_sem14_1 : DmaSem sig := 27
abbrev cc0_sem15_0 : DmaSem sig := 28
abbrev cc0_sem15_1 : DmaSem sig := 29

abbrev nD : Nat := 1
abbrev τ : Topo := Topo.v7x

variable {F : FTy → Type} [FloatOps F] [Named F]

def κ : String → Option EReal := fun
  | "edge" => some ((25 / 36 : ℝ) : EReal)
  | "jac" => some ((3 / 10 : ℝ) : EReal)
  | "reg_dv" => some ((-2592 / 625 : ℝ) : EReal)
  | _ => none

abbrev grid0 : Pipeline.Grid := ⟨2, ![14, 4], ![false, false]⟩

def k0_mult1 (i : grid0.Coords) : BitVec 32 :=
  let arg1 : BitVec 32 := BitVec.ofNat 32 (i 1).val
  let c1024_i32 : BitVec 32 := 1024#32
  let v12 : BitVec 32 := Scalar.muli arg1 c1024_i32
  let c0_i32_4 : BitVec 32 := 0#32
  let v13 : BitVec 32 := Scalar.addi v12 c0_i32_4
  v13
def k0_off1 (i : grid0.Coords) (c0_i32_4 : BitVec 32) : Fin 2 → Nat :=
  let c0_5 : Index := 0#32
  let arg1 : BitVec 32 := BitVec.ofNat 32 (i 1).val
  let c1024_i32 : BitVec 32 := 1024#32
  let v12 : BitVec 32 := Scalar.muli arg1 c1024_i32
  let v13 : BitVec 32 := Scalar.addi v12 c0_i32_4
  let v14 : BitVec 32 := v13
  let v15 : Index := Scalar.indexCast v14
  ![0, v15.toNat]
def k0_off2 (i : grid0.Coords) (c0_i32_4 : BitVec 32) : Fin 3 → Nat :=
  let c0_6 : Index := 0#32
  let arg1 : BitVec 32 := BitVec.ofNat 32 (i 1).val
  let c1024_i32 : BitVec 32 := 1024#32
  let v12 : BitVec 32 := Scalar.muli arg1 c1024_i32
  let v13 : BitVec 32 := Scalar.addi v12 c0_i32_4
  let v14 : BitVec 32 := v13
  let v17 : Index := Scalar.indexCast v14
  ![0, 0, v17.toNat]
def k0_mult2 (i : grid0.Coords) : BitVec 32 :=
  let arg1 : BitVec 32 := BitVec.ofNat 32 (i 1).val
  let c1024_i32_356 : BitVec 32 := 1024#32
  let v872 : BitVec 32 := Scalar.muli arg1 c1024_i32_356
  let c256_i32 : BitVec 32 := 256#32
  let v873 : BitVec 32 := Scalar.addi v872 c256_i32
  v873
def k0_mult3 (i : grid0.Coords) : BitVec 32 :=
  let arg1 : BitVec 32 := BitVec.ofNat 32 (i 1).val
  let c1024_i32_864 : BitVec 32 := 1024#32
  let v1948 : BitVec 32 := Scalar.muli arg1 c1024_i32_864
  let c512_i32 : BitVec 32 := 512#32
  let v1949 : BitVec 32 := Scalar.addi v1948 c512_i32
  v1949
def k0_mult4 (i : grid0.Coords) : BitVec 32 :=
  let arg1 : BitVec 32 := BitVec.ofNat 32 (i 1).val
  let c1024_i32_1371 : BitVec 32 := 1024#32
  let v3024 : BitVec 32 := Scalar.muli arg1 c1024_i32_1371
  let c768_i32 : BitVec 32 := 768#32
  let v3025 : BitVec 32 := Scalar.addi v3024 c768_i32
  v3025
def k0_cond3 (i : grid0.Coords) : BitVec 1 :=
  let arg1 : BitVec 32 := BitVec.ofNat 32 (i 1).val
  let c3_i32 : BitVec 32 := 3#32
  let v4363 : BitVec 1 := Scalar.cmpi .eq arg1 c3_i32
  let v4364 : BitVec 32 := Scalar.extui v4363
  let c0_i32_2057 : BitVec 32 := 0#32
  let v4365 : BitVec 1 := Scalar.cmpi .ne v4364 c0_i32_2057
  v4365

def cc0_transform_0 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_15 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 1 → Memref sig .tc .smem S3 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S128x2048 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S2048x4096 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S256x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S256x1024 .i8 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S256x1024 .i8 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S256x1024 .i8 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S32x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S32x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S32x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 2 → Memref sig .tc .vmem S256x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S256x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S256x1024 .i8 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S256x1024 .i8 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S32x256 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, false]

abbrev stage0_15 : Fin 2 → Memref sig .tc .vmem S32x256 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, false]
-- ==== ReferenceIdeal.lean ====
abbrev S3 : Shape := ⟨1, ![3]⟩
abbrev S1792x2048 : Shape := ⟨2, ![1792, 2048]⟩
abbrev S2048x4096 : Shape := ⟨2, ![2048, 4096]⟩
abbrev S3584x4096 : Shape := ⟨2, ![3584, 4096]⟩
abbrev S3584x32 : Shape := ⟨2, ![3584, 32]⟩
abbrev S1792x2048x2 : Shape := ⟨3, ![1792, 2048, 2]⟩
abbrev S1792x2x2048 : Shape := ⟨3, ![1792, 2, 2048]⟩
abbrev S3584x2048 : Shape := ⟨2, ![3584, 2048]⟩
abbrev S3584x32x128 : Shape := ⟨3, ![3584, 32, 128]⟩
abbrev S1 : Shape := ⟨1, ![1]⟩

abbrev nBuf : Space → Nat
  | .hbm => 16
  | .vmem => 6
  | .smem => 1
  | _ => 0

abbrev bufTy : (tb : Table) → Fin (tcTables nBuf tb) → BufTy
  | .hbm, ⟨0, _⟩ => ⟨S3, .f32⟩
  | .hbm, ⟨1, _⟩ => ⟨S1792x2048, .i32⟩
  | .hbm, ⟨2, _⟩ => ⟨S2048x4096, .fp8e4m3⟩
  | .hbm, ⟨3, _⟩ => ⟨S3584x4096, .bf16⟩
  | .hbm, ⟨4, _⟩ => ⟨S3584x4096, .i8⟩
  | .hbm, ⟨5, _⟩ => ⟨S3584x4096, .i8⟩
  | .hbm, ⟨6, _⟩ => ⟨S3584x4096, .i8⟩
  | .hbm, ⟨7, _⟩ => ⟨S3584x32, .f32⟩
  | .hbm, ⟨8, _⟩ => ⟨S3584x32, .f32⟩
  | .hbm, ⟨9, _⟩ => ⟨S3584x32, .f32⟩
  | .hbm, ⟨10, _⟩ => ⟨S1792x2048x2, .bf16⟩
  | .hbm, ⟨11, _⟩ => ⟨S1792x2x2048, .bf16⟩
  | .hbm, ⟨12, _⟩ => ⟨S3584x2048, .bf16⟩
  | .hbm, ⟨13, _⟩ => ⟨S3584x32x128, .f32⟩
  | .hbm, ⟨14, _⟩ => ⟨S3584x4096, .f32⟩
  | .hbm, ⟨15, _⟩ => ⟨S3584x4096, .f32⟩
  | .local _ .vmem, ⟨0, _⟩ => ⟨S3584x2048, .bf16⟩
  | .local _ .vmem, ⟨1, _⟩ => ⟨S2048x4096, .fp8e4m3⟩
  | .local _ .vmem, ⟨2, _⟩ => ⟨S3584x4096, .bf16⟩
  | .local _ .vmem, ⟨3, _⟩ => ⟨S3584x4096, .i8⟩
  | .local _ .vmem, ⟨4, _⟩ => ⟨S3584x4096, .f32⟩
  | .local _ .vmem, ⟨5, _⟩ => ⟨S3584x4096, .f32⟩
  | .local _ .smem, ⟨0, _⟩ => ⟨S3, .f32⟩
  | _, _ => ⟨S3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .smem, ⟨0, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev cc0_stg1_0 : Ref sig .tc := ⟨.vmem, 0, rfl⟩
abbrev cc0_stg2_0 : Ref sig .tc := ⟨.vmem, 1, rfl⟩
abbrev cc0_stg3_0 : Ref sig .tc := ⟨.vmem, 2, rfl⟩
abbrev cc0_stg4_0 : Ref sig .tc := ⟨.vmem, 3, rfl⟩
abbrev cc0_stg5_0 : Ref sig .tc := ⟨.vmem, 4, rfl⟩
abbrev cc0_stg6_0 : Ref sig .tc := ⟨.vmem, 5, rfl⟩
abbrev cc0_stg0_0 : Ref sig .tc := ⟨.smem, 0, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F] [Named F]

def κ : String → Option EReal := fun
  | "gamma" => some ((-1 / 10 : ℝ) : EReal)
  | "stretch" => some ((6 / 5 : ℝ) : EReal)
  | _ => none

abbrev grid0 : Pipeline.Grid := .none

abbrev stage0_0 : Fin 1 → Memref sig .tc .smem S3 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S3584x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2048x4096 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S3584x4096 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S3584x4096 .i8 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S3584x4096 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S3584x4096 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
-- ==== Back.lean ====
abbrev S2048x2048 : Shape := ⟨2, ![2048, 2048]⟩
abbrev S1792x4096 : Shape := ⟨2, ![1792, 4096]⟩
abbrev S3584x2048 : Shape := ⟨2, ![3584, 2048]⟩
abbrev S128x4096 : Shape := ⟨2, ![128, 4096]⟩
abbrev S256x2048 : Shape := ⟨2, ![256, 2048]⟩
abbrev S256x4096 : Shape := ⟨2, ![256, 4096]⟩
abbrev S2048x512 : Shape := ⟨2, ![2048, 512]⟩
abbrev S4096x512 : Shape := ⟨2, ![4096, 512]⟩
abbrev S256x512 : Shape := ⟨2, ![256, 512]⟩

abbrev nBuf : Space → Nat
  | .hbm => 6
  | .vmem => 11
  | .smem => 0
  | _ => 0

abbrev bufTy : (tb : Table) → Fin (tcTables nBuf tb) → BufTy
  | .hbm, ⟨0, _⟩ => ⟨S2048x2048, .i32⟩
  | .hbm, ⟨1, _⟩ => ⟨S1792x4096, .i32⟩
  | .hbm, ⟨2, _⟩ => ⟨S3584x2048, .f32⟩
  | .hbm, ⟨3, _⟩ => ⟨S3584x2048, .f32⟩
  | .hbm, ⟨4, _⟩ => ⟨S3584x2048, .bf16⟩
  | .hbm, ⟨5, _⟩ => ⟨S3584x2048, .bf16⟩
  | .local _ .vmem, ⟨0, _⟩ => ⟨S2048x2048, .i32⟩
  | .local _ .vmem, ⟨1, _⟩ => ⟨S128x4096, .i32⟩
  | .local _ .vmem, ⟨2, _⟩ => ⟨S128x4096, .i32⟩
  | .local _ .vmem, ⟨3, _⟩ => ⟨S256x2048, .f32⟩
  | .local _ .vmem, ⟨4, _⟩ => ⟨S256x2048, .f32⟩
  | .local _ .vmem, ⟨5, _⟩ => ⟨S256x2048, .f32⟩
  | .local _ .vmem, ⟨6, _⟩ => ⟨S256x2048, .f32⟩
  | .local _ .vmem, ⟨7, _⟩ => ⟨S256x2048, .bf16⟩
  | .local _ .vmem, ⟨8, _⟩ => ⟨S256x2048, .bf16⟩
  | .local _ .vmem, ⟨9, _⟩ => ⟨S256x2048, .bf16⟩
  | .local _ .vmem, ⟨10, _⟩ => ⟨S256x2048, .bf16⟩
  | _, _ => ⟨S2048x2048, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨1, ![14], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S2048x2048 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S128x4096 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== BackReferenceIdeal.lean ====
abbrev S2048x2048 : Shape := ⟨2, ![2048, 2048]⟩
abbrev S1792x4096 : Shape := ⟨2, ![1792, 4096]⟩
abbrev S3584x2048 : Shape := ⟨2, ![3584, 2048]⟩
abbrev S2048x2048x2 : Shape := ⟨3, ![2048, 2048, 2]⟩
abbrev S2048x2x2048 : Shape := ⟨3, ![2048, 2, 2048]⟩
abbrev S4096x2048 : Shape := ⟨2, ![4096, 2048]⟩
abbrev S1792x4096x2 : Shape := ⟨3, ![1792, 4096, 2]⟩
abbrev S1792x2x4096 : Shape := ⟨3, ![1792, 2, 4096]⟩
abbrev S3584x4096 : Shape := ⟨2, ![3584, 4096]⟩

abbrev nBuf : Space → Nat
  | .hbm => 15
  | .vmem => 0
  | .smem => 0
  | _ => 0

abbrev bufTy : (tb : Table) → Fin (tcTables nBuf tb) → BufTy
  | .hbm, ⟨0, _⟩ => ⟨S2048x2048, .i32⟩
  | .hbm, ⟨1, _⟩ => ⟨S1792x4096, .i32⟩
  | .hbm, ⟨2, _⟩ => ⟨S3584x2048, .f32⟩
  | .hbm, ⟨3, _⟩ => ⟨S3584x2048, .f32⟩
  | .hbm, ⟨4, _⟩ => ⟨S2048x2048x2, .bf16⟩
  | .hbm, ⟨5, _⟩ => ⟨S2048x2x2048, .bf16⟩
  | .hbm, ⟨6, _⟩ => ⟨S4096x2048, .bf16⟩
  | .hbm, ⟨7, _⟩ => ⟨S1792x4096x2, .bf16⟩
  | .hbm, ⟨8, _⟩ => ⟨S1792x2x4096, .bf16⟩
  | .hbm, ⟨9, _⟩ => ⟨S3584x4096, .bf16⟩
  | .hbm, ⟨10, _⟩ => ⟨S3584x2048, .f32⟩
  | .hbm, ⟨11, _⟩ => ⟨S3584x2048, .f32⟩
  | .hbm, ⟨12, _⟩ => ⟨S3584x2048, .bf16⟩
  | .hbm, ⟨13, _⟩ => ⟨S3584x2048, .f32⟩
  | .hbm, ⟨14, _⟩ => ⟨S3584x2048, .bf16⟩
  | _, _ => ⟨S2048x2048, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩

abbrev nD : Nat := 1
abbrev τ : Topo := Topo.v7x

variable {F : FTy → Type} [FloatOps F]
-- ==== Front.lean ====
abbrev S2048x4096 : Shape := ⟨2, ![2048, 4096]⟩
abbrev S1x2048 : Shape := ⟨2, ![1, 2048]⟩
abbrev S1792x4096 : Shape := ⟨2, ![1792, 4096]⟩
abbrev S2048x3584 : Shape := ⟨2, ![2048, 3584]⟩
abbrev S3584x2048 : Shape := ⟨2, ![3584, 2048]⟩
abbrev S128x4096 : Shape := ⟨2, ![128, 4096]⟩
abbrev S2048x256 : Shape := ⟨2, ![2048, 256]⟩
abbrev S256x2048 : Shape := ⟨2, ![256, 2048]⟩
abbrev S256x4096 : Shape := ⟨2, ![256, 4096]⟩
abbrev S512x4096 : Shape := ⟨2, ![512, 4096]⟩
abbrev S256x512 : Shape := ⟨2, ![256, 512]⟩
abbrev S1x256 : Shape := ⟨2, ![1, 256]⟩
abbrev S32x256 : Shape := ⟨2, ![32, 256]⟩
abbrev S256x256 : Shape := ⟨2, ![256, 256]⟩

abbrev nBuf : Space → Nat
  | .hbm => 8
  | .vmem => 17
  | .smem => 0
  | _ => 0

abbrev bufTy : (tb : Table) → Fin (tcTables nBuf tb) → BufTy
  | .hbm, ⟨0, _⟩ => ⟨S2048x4096, .fp8e4m3⟩
  | .hbm, ⟨1, _⟩ => ⟨S1x2048, .f32⟩
  | .hbm, ⟨2, _⟩ => ⟨S1792x4096, .i32⟩
  | .hbm, ⟨3, _⟩ => ⟨S1792x4096, .i32⟩
  | .hbm, ⟨4, _⟩ => ⟨S2048x3584, .f32⟩
  | .hbm, ⟨5, _⟩ => ⟨S2048x3584, .bf16⟩
  | .hbm, ⟨6, _⟩ => ⟨S3584x2048, .f32⟩
  | .hbm, ⟨7, _⟩ => ⟨S3584x2048, .f32⟩
  | .local _ .vmem, ⟨0, _⟩ => ⟨S2048x4096, .fp8e4m3⟩
  | .local _ .vmem, ⟨1, _⟩ => ⟨S1x2048, .f32⟩
  | .local _ .vmem, ⟨2, _⟩ => ⟨S128x4096, .i32⟩
  | .local _ .vmem, ⟨3, _⟩ => ⟨S128x4096, .i32⟩
  | .local _ .vmem, ⟨4, _⟩ => ⟨S128x4096, .i32⟩
  | .local _ .vmem, ⟨5, _⟩ => ⟨S128x4096, .i32⟩
  | .local _ .vmem, ⟨6, _⟩ => ⟨S2048x256, .f32⟩
  | .local _ .vmem, ⟨7, _⟩ => ⟨S2048x256, .f32⟩
  | .local _ .vmem, ⟨8, _⟩ => ⟨S2048x256, .bf16⟩
  | .local _ .vmem, ⟨9, _⟩ => ⟨S2048x256, .bf16⟩
  | .local _ .vmem, ⟨10, _⟩ => ⟨S256x2048, .f32⟩
  | .local _ .vmem, ⟨11, _⟩ => ⟨S256x2048, .f32⟩
  | .local _ .vmem, ⟨12, _⟩ => ⟨S256x2048, .f32⟩
  | .local _ .vmem, ⟨13, _⟩ => ⟨S256x2048, .f32⟩
  | .local _ .vmem, ⟨14, _⟩ => ⟨S128x4096, .i32⟩
  | .local _ .vmem, ⟨15, _⟩ => ⟨S128x4096, .i32⟩
  | .local _ .vmem, ⟨16, _⟩ => ⟨S256x2048, .f32⟩
  | _, _ => ⟨S2048x4096, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_scratch0 : Ref sig .tc := ⟨.vmem, 14, rfl⟩
abbrev cc0_scratch1 : Ref sig .tc := ⟨.vmem, 15, rfl⟩
abbrev cc0_scratch2 : Ref sig .tc := ⟨.vmem, 16, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨1, ![15], ![false]⟩

def k0_cond2 (i : grid0.Coords) : BitVec 1 :=
  let arg0 : BitVec 32 := BitVec.ofNat 32 (i 0).val
  let c0_i32_1 : BitVec 32 := 0#32
  let v3 : BitVec 1 := Scalar.cmpi .sgt arg0 c0_i32_1
  let v4 : BitVec 32 := Scalar.extui v3
  let c0_i32_2 : BitVec 32 := 0#32
  let v5 : BitVec 1 := Scalar.cmpi .ne v4 c0_i32_2
  v5

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c13_i32 : BitVec 32 := 13#32
  let v0 : BitVec 32 := Scalar.minsi arg0 c13_i32
  let c0_i32 : BitVec 32 := 0#32
  let c0_i32_0 : BitVec 32 := 0#32
  ![v0.toNat, c0_i32.toNat]

def cc0_transform_3 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_4 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![c0_i32_0.toNat, v1.toNat]

def cc0_transform_5 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![c0_i32_0.toNat, v1.toNat]

def cc0_transform_6 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_7 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

abbrev stage0_0 : Fin 1 → Memref sig .tc .vmem S2048x4096 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S128x4096 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x4096 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S2048x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S2048x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== FrontReferenceIdeal.lean ====
abbrev S2048x4096 : Shape := ⟨2, ![2048, 4096]⟩
abbrev S1x2048 : Shape := ⟨2, ![1, 2048]⟩
abbrev S1792x4096 : Shape := ⟨2, ![1792, 4096]⟩
abbrev S1792x4096x2 : Shape := ⟨3, ![1792, 4096, 2]⟩
abbrev S1792x2x4096 : Shape := ⟨3, ![1792, 2, 4096]⟩
abbrev S3584x4096 : Shape := ⟨2, ![3584, 4096]⟩
abbrev S2048x1 : Shape := ⟨2, ![2048, 1]⟩
abbrev S2048x3584 : Shape := ⟨2, ![2048, 3584]⟩
abbrev S4096x3584 : Shape := ⟨2, ![4096, 3584]⟩

abbrev nBuf : Space → Nat
  | .hbm => 12
  | .vmem => 5
  | .smem => 0
  | _ => 0

abbrev bufTy : (tb : Table) → Fin (tcTables nBuf tb) → BufTy
  | .hbm, ⟨0, _⟩ => ⟨S2048x4096, .fp8e4m3⟩
  | .hbm, ⟨1, _⟩ => ⟨S1x2048, .f32⟩
  | .hbm, ⟨2, _⟩ => ⟨S1792x4096, .i32⟩
  | .hbm, ⟨3, _⟩ => ⟨S1792x4096, .i32⟩
  | .hbm, ⟨4, _⟩ => ⟨S1792x4096x2, .bf16⟩
  | .hbm, ⟨5, _⟩ => ⟨S1792x2x4096, .bf16⟩
  | .hbm, ⟨6, _⟩ => ⟨S3584x4096, .bf16⟩
  | .hbm, ⟨7, _⟩ => ⟨S1792x4096x2, .bf16⟩
  | .hbm, ⟨8, _⟩ => ⟨S1792x2x4096, .bf16⟩
  | .hbm, ⟨9, _⟩ => ⟨S3584x4096, .bf16⟩
  | .hbm, ⟨10, _⟩ => ⟨S2048x1, .f32⟩
  | .hbm, ⟨11, _⟩ => ⟨S2048x3584, .f32⟩
  | .local _ .vmem, ⟨0, _⟩ => ⟨S2048x4096, .fp8e4m3⟩
  | .local _ .vmem, ⟨1, _⟩ => ⟨S2048x1, .f32⟩
  | .local _ .vmem, ⟨2, _⟩ => ⟨S3584x4096, .bf16⟩
  | .local _ .vmem, ⟨3, _⟩ => ⟨S3584x4096, .bf16⟩
  | .local _ .vmem, ⟨4, _⟩ => ⟨S2048x3584, .f32⟩
  | _, _ => ⟨S2048x4096, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [FloatOps F]

abbrev grid0 : Pipeline.Grid := .none

abbrev stage0_0 : Fin 1 → Memref sig .tc .vmem S2048x4096 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2048x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S3584x4096 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S3584x4096 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S2048x3584 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== Proof.Scalar.lean ====
/- The scalar mathematics of the logit gradient: the kernel's form, in `t = tanh (v / 2)`, and the
   reference's form, in `sig = 1 / (1 + exp (-v))`, are the same extended real. -/
module

public import Idealize.ShloMosaic.PureOps.Ideal

@[expose] public section

noncomputable section

namespace Cert.Scalar

open Idealize.ShloMosaic

theorem sigmoid_eq (r : ℝ) : (1 + Real.exp (-r))⁻¹ = (1 + Real.tanh (1 / 2 * r)) / 2 := by
  rw [Real.tanh_eq_sinh_div_cosh, Real.sinh_eq, Real.cosh_eq]
  have h1 : Real.exp (-r) = Real.exp (-(1 / 2 * r)) * Real.exp (-(1 / 2 * r)) := by
    rw [← Real.exp_add]; congr 1; ring
  have h2 : Real.exp (-(1 / 2 * r)) = (Real.exp (1 / 2 * r))⁻¹ := Real.exp_neg _
  rw [h1, h2]
  have h3 : 0 < Real.exp (1 / 2 * r) := Real.exp_pos _
  generalize Real.exp (1 / 2 * r) = a at h3
  have h4 : a ≠ 0 := h3.ne'
  have h5 : a * a + 1 ≠ 0 := by positivity
  field_simp
  ring

/-- The half-angle form: `tanh (v / 2)` is a real in `[-1, 1]`, and the sigmoid is `(1 + t) / 2`. -/
theorem tanh_half (v : EReal) : ∃ t : ℝ, -1 ≤ t ∧ t ≤ 1 ∧ Ideal.tanh (((1 / 2 : ℝ) : EReal) * v) = (t : EReal)
    ∧ Ideal.div 1 (1 + Ideal.exp (-v)) = (((1 + t) / 2 : ℝ) : EReal) := by
  change ∃ t : ℝ, -1 ≤ t ∧ t ≤ 1 ∧ Ideal.tanh (((1 / 2 : ℝ) : EReal) * v) = (t : EReal)
    ∧ Ideal.logistic v = (((1 + t) / 2 : ℝ) : EReal)
  induction v with
  | bot =>
    refine ⟨-1, le_refl _, by norm_num, ?_, ?_⟩
    · rw [EReal.coe_mul_bot_of_pos (by norm_num)]; simp
    · simp
  | top =>
    refine ⟨1, by norm_num, le_refl _, ?_, ?_⟩
    · rw [EReal.coe_mul_top_of_pos (by norm_num)]; simp
    · rw [Ideal.logistic_top]; norm_num
  | coe r =>
    refine ⟨Real.tanh (1 / 2 * r), (Real.neg_one_lt_tanh _).le, (Real.tanh_lt_one _).le, ?_, ?_⟩
    · rw [← EReal.coe_mul, Ideal.tanh_coe]
    · rw [Ideal.logistic_coe, sigmoid_eq]

/-- The kernel's logit gradient at one entry. -/
def dvKer (lam dw wsb v : EReal) (m : Prop) [Decidable m] : EReal :=
  let t := Ideal.tanh (((1 / 2 : ℝ) : EReal) * v)
  (if t * t < ((25 / 36 : ℝ) : EReal) then 1 - t * t else 0)
    * ((if m then dw else 0) * wsb + (t * t * t) * lam)

/-- The reference's logit gradient at one entry. -/
def dvRef (lam dw ws v : EReal) (m : Prop) [Decidable m] : EReal :=
  let sig := Ideal.div 1 (1 + Ideal.exp (-v))
  let hraw := ((6 / 5 : ℝ) : EReal) * sig + ((-1 / 10 : ℝ) : EReal)
  let h := min 1 (max 0 hraw)
  let jac := ((6 / 5 : ℝ) : EReal) * sig * (1 - sig)
  let c := ((2 : ℝ) : EReal) * h - 1
  (if (0 < hraw ∧ hraw < 1) ∧ m then dw * ws * jac else 0)
    + (if 0 < hraw ∧ hraw < 1 then lam * ((-8 : ℝ) : EReal) * (c * c * c) * jac else 0)

theorem dv_eq (lam dw ws v : EReal) (m : Prop) [Decidable m] :
    dvKer (lam * ((-2592 / 625 : ℝ) : EReal)) dw (ws * ((3 / 10 : ℝ) : EReal)) v m = dvRef lam dw ws v m := by
  obtain ⟨t, h1, h2, ht, hs⟩ := tanh_half v
  unfold dvKer dvRef
  simp only [ht, hs]
  have hraw : ((6 / 5 : ℝ) : EReal) * (((1 + t) / 2 : ℝ) : EReal) + ((-1 / 10 : ℝ) : EReal)
      = ((1 / 2 + 3 / 5 * t : ℝ) : EReal) := by
    rw [← EReal.coe_mul, ← EReal.coe_add]; congr 1; ring
  have hjac : ((6 / 5 : ℝ) : EReal) * (((1 + t) / 2 : ℝ) : EReal) * (1 - (((1 + t) / 2 : ℝ) : EReal))
      = ((3 / 10 * (1 - t * t) : ℝ) : EReal) := by
    rw [← EReal.coe_one, ← EReal.coe_sub, ← EReal.coe_mul, ← EReal.coe_mul]; congr 1; ring
  rw [hraw, hjac]
  have hin : (0 < ((1 / 2 + 3 / 5 * t : ℝ) : EReal) ∧ ((1 / 2 + 3 / 5 * t : ℝ) : EReal) < 1)
      ↔ ((t : EReal) * (t : EReal) < ((25 / 36 : ℝ) : EReal)) := by
    rw [← EReal.coe_mul, ← EReal.coe_zero, ← EReal.coe_one, EReal.coe_lt_coe_iff, EReal.coe_lt_coe_iff,
      EReal.coe_lt_coe_iff]
    constructor
    · rintro ⟨a, b⟩; nlinarith
    · intro a; constructor <;> nlinarith
  by_cases hq : (t : EReal) * (t : EReal) < ((25 / 36 : ℝ) : EReal)
  · have hi := hin.mpr hq
    have hh : min (1 : EReal) (max 0 ((1 / 2 + 3 / 5 * t : ℝ) : EReal)) = ((1 / 2 + 3 / 5 * t : ℝ) : EReal) := by
      rw [max_eq_right hi.1.le, min_eq_right hi.2.le]
    have hc : ((2 : ℝ) : EReal) * ((1 / 2 + 3 / 5 * t : ℝ) : EReal) - 1 = ((6 / 5 * t : ℝ) : EReal) := by
      rw [← EReal.coe_one, ← EReal.coe_mul, ← EReal.coe_sub]; congr 1; ring
    rw [hh, hc, if_pos hq, if_pos hi]
    have hs0 : (1 : EReal) - (t : EReal) * (t : EReal) = ((1 - t * t : ℝ) : EReal) := by
      rw [← EReal.coe_one, ← EReal.coe_mul, ← EReal.coe_sub]
    rw [hs0, EReal.left_distrib_of_nonneg_of_ne_top (by
      rw [← EReal.coe_zero, EReal.coe_le_coe_iff]; nlinarith) (EReal.coe_ne_top _)]
    congr 1
    · by_cases hm : m
      · rw [if_pos hm, if_pos ⟨hi, hm⟩, EReal.coe_mul]; ac_rfl
      · rw [if_neg hm, if_neg (fun h => hm h.2)]; simp
    · simp only [← EReal.coe_mul]
      rw [show lam * ((-8 : ℝ) : EReal) * ((6 / 5 * t * (6 / 5 * t) * (6 / 5 * t) : ℝ) : EReal)
            * ((3 / 10 * (1 - t * t) : ℝ) : EReal)
          = lam * ((-8 * (6 / 5 * t * (6 / 5 * t) * (6 / 5 * t)) * (3 / 10 * (1 - t * t)) : ℝ) : EReal) from by
        rw [EReal.coe_mul (-8 * _), EReal.coe_mul (-8)]; ac_rfl]
      rw [show ((1 - t * t : ℝ) : EReal) * (((t * t * t : ℝ) : EReal) * (lam * ((-2592 / 625 : ℝ) : EReal)))
          = lam * (((1 - t * t) * (t * t * t) * (-2592 / 625) : ℝ) : EReal) from by
        rw [EReal.coe_mul ((1 - t * t) * (t * t * t)), EReal.coe_mul (1 - t * t)]; ac_rfl]
      congr 2; ring
  · have h3 := fun h => hq (hin.mp h)
    rw [if_neg hq, if_neg h3, zero_mul, add_zero]
    split_ifs with h
    · exact absurd h.1 h3
    · rfl

/-- A value cut in three summands (as a stored high, middle and low part) is itself when it is finite. -/
theorem split3 (s : EReal) (h1 : s ≠ ⊤) (h2 : s ≠ ⊥) : s - s = 0 := EReal.sub_self h1 h2

end Cert.Scalar

end
-- ==== Proof.Consts.lean ====
/- Hand-written, untrusted: constants and flag bits that both programs' payloads read to, over the extended reals. -/
module

public import Idealize.ShloMosaic.PureOps.Ideal
public import Idealize.ShloMosaic.Lib.Pointwise
public import Idealize.ShloMosaic.Lib.IdealHost

@[expose] public section

noncomputable section

namespace Cert.Consts

open Idealize.ShloMosaic

theorem two_f32 : Ideal.ofBits .f32 0x40000000#32 = ((2 : ℝ) : EReal) := by
  simp [Ideal.ofBits, Ideal.ieee, -EReal.coe_mul]; norm_num

theorem half_f32 : Ideal.ofBits .f32 0x3F000000#32 = ((1 / 2 : ℝ) : EReal) := by
  simp [Ideal.ofBits, Ideal.ieee, -EReal.coe_mul]; norm_num

theorem neg_eight_f32 : Ideal.ofBits .f32 0xC1000000#32 = ((-8 : ℝ) : EReal) := by
  simp [Ideal.ofBits, Ideal.ieee, -EReal.coe_mul]; norm_num

/-- A byte widened to a word is nonzero where the byte is. -/
theorem byte_ne (k : BitVec 8) : IntOp.cmpi .ne (BitVec.signExtend 32 k) 0#32 = BitVec.ofBool (decide (k ≠ 0)) := by
  show BitVec.ofBool (BitVec.signExtend 32 k != 0#32) = _
  congr 1
  have h : BitVec.signExtend 32 k = 0#32 ↔ k = 0 := by
    constructor
    · intro h
      apply BitVec.eq_of_toInt_eq
      have := congrArg BitVec.toInt h
      rw [BitVec.toInt_signExtend_of_le (by decide)] at this
      simpa using this
    · rintro rfl; decide
  rw [Bool.eq_iff_iff]
  simp [bne_iff_ne, h]

theorem andi_bits (p q : Prop) [Decidable p] [Decidable q] :
    IntOp.andi (BitVec.ofBool (decide p)) (BitVec.ofBool (decide q)) = BitVec.ofBool (decide (p ∧ q)) := by
  by_cases hp : p <;> by_cases hq : q <;> simp [hp, hq, IntOp.andi]

theorem select_bits {α : Type} (p : Prop) [Decidable p] (x y : α) :
    Scalar.select (BitVec.ofBool (decide p)) x y = if p then x else y := by
  by_cases hp : p <;> simp [hp, Scalar.select]

end Cert.Consts

end
-- ==== Proof.KerPure.lean ====
/- Hand-written, untrusted: the kernel's payloads read at one entry, over the extended reals. -/
module

public import proofs.«01_k».proof.Proof.Gen.KernelIdeal.Skeleton
public import proofs.«01_k».proof.Proof.Scalar
public import proofs.«01_k».proof.Proof.Consts
public import Idealize.ShloMosaic.Lib.BitcastPair
public import Idealize.ShloMosaic.Lib.WordCmp

@[expose] public section

noncomputable section

namespace Cert.KerPure

open Cert.KernelIdeal Cert.KernelIdeal.Gen Idealize.ShloMosaic

section
variable {F : FTy → Type} [FloatOps F] [Named F]

/-- One strip of 32 rows of the gradient: `off` is where the strip lies in the block's two products. -/
def strip (off : Fin 2 → Nat) (h : S256x256.Slices off S32x256) (lam : F .f32) (dw wsb : FVec F S256x256 .f32)
    (v : Vec F S32x256 .bf16) (k : Vec F S32x256 .i8) : FVec F S32x256 .f32 :=
  have t : FVec F S32x256 .f32 := tanh (mulf (broadcast S32x256 (Scalar.ofBits .f32 0x3F000000#32)) (extf .f32 v bitsLt_bf16_f32))
  have q : FVec F S32x256 .f32 := mulf t t
  have slope : FVec F S32x256 .f32 := select (cmpf .olt q (broadcast S32x256 (Named.named κ "edge" 0x3F31C71C#32 : F .f32)))
    (subf (broadcast S32x256 (Scalar.ofBits .f32 0x3F800000#32)) q) (broadcast S32x256 (Scalar.ofBits .f32 0x00000000#32))
  have d : FVec F S32x256 .f32 := select (cmpi .ne (extsi 32 k natLt_8_32) (broadcast S32x256 0#32))
    (extractStridedSlice S32x256 off dw h) (broadcast S32x256 (Scalar.ofBits .f32 0x00000000#32))
  mulf slope (addf (mulf d (extractStridedSlice S32x256 off wsb h)) (mulf (mulf q t) (broadcast S32x256 lam)))
end

theorem strip_at (c : Nat) (hc : c + 32 ≤ 256) (h : S256x256.Slices ![c, 0] S32x256) (lam : EReal) (dw wsb : FVec Ideal S256x256 .f32)
    (v : Vec Ideal S32x256 .bf16) (k : Vec Ideal S32x256 .i8) (a : Fin 32) (b : Fin 256) :
    strip (F := Ideal) ![c, 0] h lam dw wsb v k (ix2 a b)
      = Scalar.dvKer lam (dw (ix2 ⟨c + a.val, by omega⟩ b)) (wsb (ix2 ⟨c + a.val, by omega⟩ b)) (v (ix2 a b)) (k (ix2 a b) ≠ 0) := by
  pointwise [strip]
  have e1 : (Named.named κ "edge" 0x3F31C71C#32 : Ideal .f32) = ((25 / 36 : ℝ) : EReal) := rfl
  rw [e1]
  simp only [Consts.byte_ne, Consts.select_bits, Consts.half_f32]
  have hz : ∀ (d w : EReal), (if k (ix2 a b) ≠ 0 then d else 0) * w = if k (ix2 a b) ≠ 0 then d * w else 0 := by
    intro d w; split_ifs
    · rfl
    · exact zero_mul _
  rw [← hz]
  rfl

theorem dw_at (y : Vec Ideal S2048x256 .fp8e4m3) (x : Vec Ideal S128x2048 .i32) (r b : Fin 256) :
    k0_pay22 (F := Ideal) y x (ix2 r b)
      = ∑ t : Fin 2048, Ideal.ofBits .bf16 ((x (ix2 ⟨r.val / 2, by omega⟩ t)).extractLsb' (r.val % 2 * 16) 16) * y (ix2 t b) := by
  pointwise [k0_pay22]
  refine Finset.sum_congr rfl fun t _ => ?_
  rw [bitcast_32_16]
  congr 3
  · exact Nat.mul_comm _ _
  · congr 1
    funext d; apply Fin.ext
    match d with
    | ⟨0, _⟩ => rfl
    | ⟨1, _⟩ => rfl

theorem wsb_at (sp : Vec Ideal S64x2x256 .bf16) (tab : Vec Ideal S128x2x128 .bf16) (r b : Fin 256) :
    k0_pay23 (F := Ideal) sp tab (ix2 r b)
      = ∑ k : Fin 128, tab (ix3 ⟨r.val / 2, by omega⟩ ⟨r.val % 2, by omega⟩ k) * sp (ix3 ⟨k.val / 2, by omega⟩ ⟨k.val % 2, by omega⟩ b) := by
  pointwise [k0_pay23, k0_pay21]
  refine Finset.sum_congr rfl fun k _ => ?_
  congr 1
  · split_ifs with h
    · congr 2; exact Fin.ext h.symm
    · congr 2; exact Fin.ext (show 1 = r.val % 2 by omega)
  · split_ifs with h
    · congr 2; exact Fin.ext h.symm
    · congr 2; exact Fin.ext (show 1 = k.val % 2 by omega)

/-- The table's entry: part `k / 32` of the scale of group `k % 32` of row `r`. -/
def part (s : EReal) (q : Nat) : EReal := if q = 0 then s else if q = 1 then s - s else if q = 2 then s - s - (s - s) else 0

theorem part_of (f : Fin 32 → EReal) (k : Fin 128) :
    (if h : k.val < 32 then f ⟨k.val, h⟩
      else if h : k.val - 32 < 32 then f ⟨k.val - 32, h⟩ - f ⟨k.val - 32, h⟩
      else if h : k.val - 32 - 32 < 32 then f ⟨k.val - 32 - 32, h⟩ - f ⟨k.val - 32 - 32, h⟩ - (f ⟨k.val - 32 - 32, h⟩ - f ⟨k.val - 32 - 32, h⟩)
      else 0)
    = part (f ⟨k.val % 32, by omega⟩) (k.val / 32) := by
  unfold part
  by_cases h1 : k.val < 32
  · rw [dif_pos h1, if_pos (by omega)]; congr 1; exact Fin.ext (by simp only []; omega)
  rw [dif_neg h1, if_neg (by omega)]
  by_cases h2 : k.val - 32 < 32
  · have e : (⟨k.val - 32, h2⟩ : Fin 32) = ⟨k.val % 32, by omega⟩ := Fin.ext (by simp only []; omega)
    rw [dif_pos h2, if_pos (by omega), e]
  rw [dif_neg h2, if_neg (by omega)]
  by_cases h3 : k.val - 32 - 32 < 32
  · have e : (⟨k.val - 32 - 32, h3⟩ : Fin 32) = ⟨k.val % 32, by omega⟩ := Fin.ext (by simp only []; omega)
    rw [dif_pos h3, if_pos (by omega), e]
  rw [dif_neg h3, if_neg (by omega)]

theorem tab_at (x : Vec Ideal S32x256 .f32) (a : Fin 128) (p : Fin 2) (k : Fin 128) :
    k0_pay10 (F := Ideal) x (ix3 a p k)
      = part (x (ix2 ⟨k.val % 32, by omega⟩ ⟨2 * a.val + p.val, by omega⟩) * ((3 / 10 : ℝ) : EReal)) (k.val / 32) := by
  pointwise [k0_pay10]
  have e1 : (Named.named κ "jac" 0x3E99999A#32 : Ideal .f32) = ((3 / 10 : ℝ) : EReal) := rfl
  rw [e1]
  have hp : p.val = 0 ∨ p.val = 1 := by omega
  rcases hp with hp | hp
  · rw [if_pos (by omega)]
    refine (part_of (fun g => x (ix2 g ⟨2 * a.val, by omega⟩) * ((3 / 10 : ℝ) : EReal)) k).trans ?_
    have e : (⟨2 * a.val, by omega⟩ : Fin 256) = ⟨2 * a.val + p.val, by omega⟩ := Fin.ext (by simp only []; omega)
    rw [e]
  · rw [if_neg (by omega)]
    refine (part_of (fun g => x (ix2 g ⟨2 * a.val + 1, by omega⟩) * ((3 / 10 : ℝ) : EReal)) k).trans ?_
    have e : (⟨2 * a.val + 1, by omega⟩ : Fin 256) = ⟨2 * a.val + p.val, by omega⟩ := Fin.ext (by simp only []; omega)
    rw [e]

theorem word_lt : ∀ k : Fin 128, IntOp.cmpi .slt (IntOp.shrui .vector (BitVec.ofNat 32 k.val) 5#32) 3#32
    = BitVec.ofBool (decide (k.val / 32 < 3)) := by decide +kernel

theorem word_and : ∀ k : Fin 128, IntOp.andi (BitVec.ofNat 32 k.val) 31#32 = BitVec.ofNat 32 (k.val % 32) := by decide +kernel

theorem word_shr : ∀ n : Fin 4096, IntOp.shrui .vector (BitVec.ofNat 32 n.val) 7#32 = BitVec.ofNat 32 (n.val / 128) := by
  decide +kernel

theorem spread_word (k : Nat) (hk : k < 128) (n : Fin 4096) :
    Scalar.select (IntOp.andi (IntOp.cmpi .slt (IntOp.shrui .vector (BitVec.ofNat 32 k) 5#32) 3#32)
      (IntOp.cmpi .eq (IntOp.andi (BitVec.ofNat 32 k) 31#32) (IntOp.shrui .vector (BitVec.ofNat 32 n.val) 7#32))) (1 : EReal) 0
      = if k / 32 < 3 ∧ k % 32 = n.val / 128 then 1 else 0 := by
  rw [word_lt ⟨k, hk⟩, word_and ⟨k, hk⟩, word_shr n, WordCmp.cmpi_eq_ofNat (by omega) (by omega), Consts.andi_bits, Consts.select_bits]

theorem spread_at (a : Fin 64) (p : Fin 2) (n : Fin 4096) :
    k0_pay6 (F := Ideal) (ix3 a p n)
      = if (2 * a.val + p.val) / 32 < 3 ∧ (2 * a.val + p.val) % 32 = n.val / 128 then 1 else 0 := by
  pointwise [k0_pay6]
  have hp : p.val = 0 ∨ p.val = 1 := by omega
  rw [spread_word _ (by omega), spread_word _ (by omega)]
  rcases hp with hp | hp <;> simp [hp]

/-- Where the scale is finite the three parts, spread over the group's columns, add up to the scale. -/
theorem sum_parts (f : Fin 32 → EReal) (hf : ∀ g, ∃ x : ℝ, f g = x) (g : Fin 32) :
    (∑ k : Fin 128, part (f ⟨k.val % 32, by omega⟩) (k.val / 32) * (if k.val / 32 < 3 ∧ k.val % 32 = g.val then (1 : EReal) else 0)) = f g := by
  rw [Finset.sum_eq_single (⟨g.val, by omega⟩ : Fin 128)]
  · have e : (⟨g.val % 32, by omega⟩ : Fin 32) = g := Fin.ext (by simp only []; omega)
    rw [if_pos ⟨by simp only []; omega, by simp only []; omega⟩, mul_one]
    simp only [e]
    unfold part
    rw [if_pos (by omega)]
  · intro k _ hk
    by_cases h : k.val / 32 < 3 ∧ k.val % 32 = g.val
    · have hne : k.val ≠ g.val := fun h' => hk (Fin.ext h')
      have e : (⟨k.val % 32, by omega⟩ : Fin 32) = g := Fin.ext h.2
      rw [e]
      obtain ⟨x, hx⟩ := hf g
      have h0 : f g - f g = 0 := by rw [hx, ← EReal.coe_sub, sub_self]; rfl
      unfold part
      rw [if_neg (by omega), h0]
      simp
    · rw [if_neg h, mul_zero]
  · intro h; exact absurd (Finset.mem_univ _) h

end Cert.KerPure

end
-- ==== Proof.KerBlock.lean ====
/- Hand-written, untrusted: one strip of the gradient the kernel stores, set beside the whole block's function. -/
module

public import proofs.«01_k».proof.Proof.KerPure
public import Idealize.ShloMosaic.Lib.Pipeline.Value

@[expose] public section

noncomputable section

namespace Cert.KerBlock

open Cert.KernelIdeal Cert.KernelIdeal.Gen Idealize.ShloMosaic

/-- The block's gradient, from the factor of the regularizer, the two products and the block's logits and mask. -/
def G (lam : EReal) (DW WSB : Fin 256 → Fin 1024 → EReal) (x3 : Vec Ideal S256x1024 .bf16) (x4 : Vec Ideal S256x1024 .i8) :
    Vec Ideal S256x1024 .f32 :=
  fun y => Scalar.dvKer lam (DW (y 0) (y 1)) (WSB (y 0) (y 1)) (x3 y) (x4 y ≠ 0)

/-- The weights' gradient of the row block at chunk `j`. -/
def DWof (j : Fin 4) (x1 : Vec Ideal S128x2048 .i32) (x2 : Vec Ideal S2048x4096 .fp8e4m3) : Fin 256 → Fin 1024 → EReal :=
  fun r b => ∑ t : Fin 2048, Ideal.ofBits .bf16 ((x1 (ix2 ⟨r.val / 2, by omega⟩ t)).extractLsb' (r.val % 2 * 16) 16)
    * x2 (ix2 t ⟨1024 * j.val + b.val, by omega⟩)

/-- The table times the spreader at chunk `j`. -/
def WSBof (j : Fin 4) (tab : Vec Ideal S128x2x128 .bf16) (sp : Vec Ideal S64x2x4096 .bf16) : Fin 256 → Fin 1024 → EReal :=
  fun r b => ∑ k : Fin 128, tab (ix3 ⟨r.val / 2, by omega⟩ ⟨r.val % 2, by omega⟩ k)
    * sp (ix3 ⟨k.val / 2, by omega⟩ ⟨k.val % 2, by omega⟩ ⟨1024 * j.val + b.val, by omega⟩)

theorem dw_of (j : Fin 4) (n : Nat) (hn : 256 * n + 256 ≤ 1024) (x1 : Vec Ideal S128x2048 .i32) (x2 : Vec Ideal S2048x4096 .fp8e4m3)
    (off : Fin 2 → Nat) (h : off = ![0, 1024 * j.val + 256 * n]) (inb : ∀ a, off a + S2048x256.size a ≤ S2048x4096.size a)
    (r b : Fin 256) :
    k0_pay22 (F := Ideal) (View.ld x2 (Rect.unit (s := S2048x4096) off S2048x256.size inb)) x1 (ix2 r b)
      = DWof j x1 x2 r ⟨256 * n + b.val, by omega⟩ := by
  subst h
  rw [KerPure.dw_at]
  refine Finset.sum_congr rfl fun t _ => ?_
  congr 1
  refine congrArg x2 (funext fun d => Fin.ext ?_)
  match d with
  | ⟨0, _⟩ => show 0 + 1 * t.val = t.val; omega
  | ⟨1, _⟩ => show 1024 * j.val + 256 * n + 1 * b.val = 1024 * j.val + (256 * n + b.val); omega

theorem wsb_of (j : Fin 4) (n : Nat) (hn : 256 * n + 256 ≤ 1024) (tab : Vec Ideal S128x2x128 .bf16) (sp : Vec Ideal S64x2x4096 .bf16)
    (off : Fin 3 → Nat) (h : off = ![0, 0, 1024 * j.val + 256 * n]) (inb : ∀ a, off a + S64x2x256.size a ≤ S64x2x4096.size a)
    (r b : Fin 256) :
    k0_pay23 (F := Ideal) (View.ld sp (Rect.unit (s := S64x2x4096) off S64x2x256.size inb)) tab (ix2 r b)
      = WSBof j tab sp r ⟨256 * n + b.val, by omega⟩ := by
  subst h
  rw [KerPure.wsb_at]
  refine Finset.sum_congr rfl fun k _ => ?_
  congr 1
  refine congrArg sp (funext fun d => Fin.ext ?_)
  match d with
  | ⟨0, _⟩ => show 0 + 1 * (k.val / 2) = k.val / 2; omega
  | ⟨1, _⟩ => show 0 + 1 * (k.val % 2) = k.val % 2; omega
  | ⟨2, _⟩ => show 1024 * j.val + 256 * n + 1 * b.val = 1024 * j.val + (256 * n + b.val); omega

theorem emb_at (c n : Nat) (hc : c + 32 ≤ 256) (hn : 256 * n + 256 ≤ 1024)
    (inb : ∀ a, (![c, 256 * n] : Fin 2 → Nat) a + S32x256.size a ≤ S256x1024.size a) (a : Fin 32) (b : Fin 256) :
    (Rect.unit (s := S256x1024) ![c, 256 * n] S32x256.size inb).emb (ix2 a b)
      = ix2 (⟨c + a.val, by omega⟩ : Fin 256) (⟨256 * n + b.val, by omega⟩ : Fin 1024) := by
  funext d; apply Fin.ext
  match d with
  | ⟨0, _⟩ => show c + 1 * a.val = c + a.val; omega
  | ⟨1, _⟩ => show 256 * n + 1 * b.val = 256 * n + b.val; omega

theorem ld_at {e : EltTy} (c n : Nat) (hc : c + 32 ≤ 256) (hn : 256 * n + 256 ≤ 1024)
    (inb : ∀ a, (![c, 256 * n] : Fin 2 → Nat) a + S32x256.size a ≤ S256x1024.size a) (X : Vec Ideal S256x1024 e) (a : Fin 32) (b : Fin 256) :
    View.ld X (Rect.unit (s := S256x1024) ![c, 256 * n] S32x256.size inb) (ix2 a b)
      = X (ix2 (⟨c + a.val, by omega⟩ : Fin 256) (⟨256 * n + b.val, by omega⟩ : Fin 1024)) :=
  congrArg X (emb_at c n hc hn inb a b)

/-- A strip of the stores: rows from `c`, columns from `256 n` of the block. -/
theorem piece_at' (c n : Nat) (hc : c + 32 ≤ 256) (hn : 256 * n + 256 ≤ 1024) (hs : S256x256.Slices ![c, 0] S32x256)
    (inb : ∀ a, (![c, 256 * n] : Fin 2 → Nat) a + S32x256.size a ≤ S256x1024.size a)
    {lam : EReal} {DW WSB : Fin 256 → Fin 1024 → EReal} {dw wsb : FVec Ideal S256x256 .f32}
    (hdw : ∀ r b : Fin 256, dw (ix2 r b) = DW r ⟨256 * n + b.val, by omega⟩)
    (hwsb : ∀ r b : Fin 256, wsb (ix2 r b) = WSB r ⟨256 * n + b.val, by omega⟩)
    (x3 : Vec Ideal S256x1024 .bf16) (x4 : Vec Ideal S256x1024 .i8) (v : Vec Ideal S32x256 .bf16) (k : Vec Ideal S32x256 .i8)
    (hv : v = View.ld x3 (Rect.unit (s := S256x1024) ![c, 256 * n] S32x256.size inb))
    (hk : k = View.ld x4 (Rect.unit (s := S256x1024) ![c, 256 * n] S32x256.size inb)) (a : Fin 32) (b : Fin 256) :
    KerPure.strip (F := Ideal) ![c, 0] hs lam dw wsb v k (ix2 a b)
      = G lam DW WSB x3 x4 (ix2 (⟨c + a.val, by omega⟩ : Fin 256) (⟨256 * n + b.val, by omega⟩ : Fin 1024)) := by
  rw [KerPure.strip_at c hc hs lam dw wsb v k a b, hdw, hwsb, hv, hk, ld_at c n hc hn, ld_at c n hc hn]
  rfl

theorem idx_eq (x : S32x256.Idx) : x = ix2 (x 0 : Fin 32) (x 1 : Fin 256) := by
  funext d; match d with
  | ⟨0, _⟩ => rfl
  | ⟨1, _⟩ => rfl

theorem piece_at (c n : Nat) (hc : c + 32 ≤ 256) (hn : 256 * n + 256 ≤ 1024) (hs : S256x256.Slices ![c, 0] S32x256)
    (inb : ∀ a, (![c, 256 * n] : Fin 2 → Nat) a + S32x256.size a ≤ S256x1024.size a)
    {lam : EReal} {DW WSB : Fin 256 → Fin 1024 → EReal} {dw wsb : FVec Ideal S256x256 .f32}
    (hdw : ∀ r b : Fin 256, dw (ix2 r b) = DW r ⟨256 * n + b.val, by omega⟩)
    (hwsb : ∀ r b : Fin 256, wsb (ix2 r b) = WSB r ⟨256 * n + b.val, by omega⟩)
    (x3 : Vec Ideal S256x1024 .bf16) (x4 : Vec Ideal S256x1024 .i8) (v : Vec Ideal S32x256 .bf16) (k : Vec Ideal S32x256 .i8)
    (hv : v = View.ld x3 (Rect.unit (s := S256x1024) ![c, 256 * n] S32x256.size inb))
    (hk : k = View.ld x4 (Rect.unit (s := S256x1024) ![c, 256 * n] S32x256.size inb)) (x : S32x256.Idx) :
    KerPure.strip (F := Ideal) ![c, 0] hs lam dw wsb v k x
      = G lam DW WSB x3 x4 ((Rect.unit (s := S256x1024) ![c, 256 * n] S32x256.size inb).emb x) := by
  have hx := idx_eq x
  refine (congrArg _ hx).trans ((piece_at' c n hc hn hs inb hdw hwsb x3 x4 v k hv hk (x 0) (x 1)).trans ?_)
  exact congrArg _ ((emb_at c n hc hn inb (x 0) (x 1)).symm.trans (congrArg _ hx.symm))

end Cert.KerBlock

end
-- ==== Proof.KerLoads.lean ====
/- Hand-written, untrusted: the loads of the kernel's body, in the block's terms. -/
module

public import proofs.«01_k».proof.Proof.KerBlock

@[expose] public section

noncomputable section

namespace Cert.KerRun

open Cert.KernelIdeal Cert.KernelIdeal.Gen Idealize.ShloMosaic Idealize.ShloMosaic.TcCoe Idealize.ShloMosaic.Tactic

/-- Word `k` of the scalars. -/
def word (k : Fin 3) : S3.Idx := fun a => match a with | ⟨0, _⟩ => k

/-- The factor of the regularizer, from the scalars. -/
def lamOf (x0 : Vec Ideal S3 .f32) : EReal := x0 (word 0) * ((-2592 / 625 : ℝ) : EReal)

theorem lam_load (arg2 : Memref sig .tc .smem S3 .f32) (harg2 : arg2.IsWhole) (x0 : Vec Ideal S3 .f32) :
    k0_pay17 (F := Ideal) (View.readAt (Elt Ideal) arg2.view (Rect.unit (s := S3) ![0] S1.size inb_S3_S1_0).toLoadRect (harg2.unread x0) (Shape.Idx.first (by decide)))
      = lamOf x0 := by
  show View.readAt (Elt Ideal) arg2.view (Rect.unit (s := S3) ![0] S1.size inb_S3_S1_0).toLoadRect (harg2.unread x0) (Shape.Idx.first (by decide))
    * ((-2592 / 625 : ℝ) : EReal) = _
  rw [View.readAt_eq_ld, harg2.read_unread]
  exact congrArg (· * _) (congrArg x0 (funext fun a => Fin.ext (by match a with | ⟨0, _⟩ => rfl)))

theorem off1_eq (i : grid0.Coords) (n : Nat) (hn : n < 4) : k0_off1 i (BitVec.ofNat 32 (256 * n)) = ![0, 1024 * (i 1).val + 256 * n] :=
  k0_off1_eq i ⟨n, hn⟩
theorem off2_eq (i : grid0.Coords) (n : Nat) (hn : n < 4) : k0_off2 i (BitVec.ofNat 32 (256 * n)) = ![0, 0, 1024 * (i 1).val + 256 * n] :=
  k0_off2_eq i ⟨n, hn⟩
theorem off1_inb (i : grid0.Coords) (n : Nat) (hn : n < 4) : ∀ a, (k0_off1 i (BitVec.ofNat 32 (256 * n))) a + S2048x256.size a ≤ S2048x4096.size a :=
  k0_off1_inb i ⟨n, hn⟩
theorem off2_inb (i : grid0.Coords) (n : Nat) (hn : n < 4) : ∀ a, (k0_off2 i (BitVec.ofNat 32 (256 * n))) a + S64x2x256.size a ≤ S64x2x4096.size a :=
  k0_off2_inb i ⟨n, hn⟩

theorem hz2 : (![0, 0] : Fin 2 → Nat) = fun _ => 0 := funext fun a => by match a with | ⟨0, _⟩ => rfl | ⟨1, _⟩ => rfl
theorem hz3 : (![0, 0, 0] : Fin 3 → Nat) = fun _ => 0 := funext fun a => by match a with | ⟨0, _⟩ => rfl | ⟨1, _⟩ => rfl | ⟨2, _⟩ => rfl

theorem dw_load (i : grid0.Coords) (n : Nat) (hn : n < 4) (arg3 : Memref sig .tc .vmem S128x2048 .i32) (harg3 : arg3.IsWhole)
    (arg4 : Memref sig .tc .vmem S2048x4096 .fp8e4m3) (harg4 : arg4.IsWhole) (x1 : Vec Ideal S128x2048 .i32)
    (x2 : Vec Ideal S2048x4096 .fp8e4m3) (r b : Fin 256) :
    k0_pay22 (F := Ideal)
      (View.readAt (Elt Ideal) arg4.view (Rect.unit (s := S2048x4096) (k0_off1 i (BitVec.ofNat 32 (256 * n))) S2048x256.size (off1_inb i n hn)).toLoadRect (harg4.unread x2))
      (View.readAt (Elt Ideal) arg3.view (Rect.unit (s := S128x2048) ![0, 0] S128x2048.size inb_S128x2048_S128x2048_0_0).toLoadRect (harg3.unread x1)) (ix2 r b)
      = KerBlock.DWof (i 1) x1 x2 r ⟨256 * n + b.val, by omega⟩ := by
  rw [View.readAt_eq_ld, View.readAt_eq_ld, harg4.read_unread, harg3.read_unread, View.ld_unit_zero hz2]
  exact KerBlock.dw_of (i 1) n (by omega) x1 x2 _ (off1_eq i n hn) _ r b

theorem wsb_load_B (i : grid0.Coords) (n : Nat) (hn : n < 4) (arg18 : Memref sig .tc .vmem S128x2x128 .bf16) (harg18 : arg18.IsWhole)
    (arg21 : Memref sig .tc .vmem S64x2x4096 .bf16) (harg21 : arg21.IsWhole) (xs0 : Vec Ideal S128x2x128 .bf16)
    (xs3 : Vec Ideal S64x2x4096 .bf16) (r b : Fin 256) :
    k0_pay23 (F := Ideal)
      (View.readAt (Elt Ideal) arg21.view (Rect.unit (s := S64x2x4096) (k0_off2 i (BitVec.ofNat 32 (256 * n))) S64x2x256.size (off2_inb i n hn)).toLoadRect (harg21.unread xs3))
      (View.readAt (Elt Ideal) arg18.view (Rect.unit (s := S128x2x128) ![0, 0, 0] S128x2x128.size inb_S128x2x128_S128x2x128_0_0_0).toLoadRect (harg18.unread xs0)) (ix2 r b)
      = KerBlock.WSBof (i 1) xs0 xs3 r ⟨256 * n + b.val, by omega⟩ := by
  rw [View.readAt_eq_ld, View.readAt_eq_ld, harg21.read_unread, harg18.read_unread, View.ld_unit_zero hz3]
  exact KerBlock.wsb_of (i 1) n (by omega) xs0 xs3 _ (off2_eq i n hn) _ r b

theorem tab_load (arg9 : Memref sig .tc .vmem S32x256 .f32) (harg9 : arg9.IsWhole) (arg18 : Memref sig .tc .vmem S128x2x128 .bf16)
    (x7 : Vec Ideal S32x256 .f32) :
    arg18.view.readCov [⟨Rect.unit (s := S128x2x128) ![0, 0, 0] S128x2x128.size inb_S128x2x128_S128x2x128_0_0_0,
        k0_pay10 (F := Ideal) (View.readAt (Elt Ideal) arg9.view (Rect.unit (s := S32x256) ![0, 0] S32x256.size inb_S32x256_S32x256_0_0).toLoadRect (harg9.unread x7))⟩]
      (Rect.unit (s := S128x2x128) ![0, 0, 0] S128x2x128.size inb_S128x2x128_S128x2x128_0_0_0).toLoadRect
      = k0_pay10 (F := Ideal) x7 := by
  rw [View.readCov_eq_canon', View.readAt_eq_ld, harg9.read_unread, View.ld_unit_zero hz2]
  have h := View.canon_unit_zero (Val := Elt Ideal) hz3 inb_S128x2x128_S128x2x128_0_0_0 (k0_pay10 (F := Ideal) x7)
  rw [h]
  exact View.ld_unit_zero hz3 inb_S128x2x128_S128x2x128_0_0_0 (k0_pay10 (F := Ideal) x7)

theorem wsb_load_D (i : grid0.Coords) (n : Nat) (hn : n < 4) (arg9 : Memref sig .tc .vmem S32x256 .f32) (harg9 : arg9.IsWhole)
    (arg18 : Memref sig .tc .vmem S128x2x128 .bf16)
    (arg21 : Memref sig .tc .vmem S64x2x4096 .bf16) (harg21 : arg21.IsWhole) (x7 : Vec Ideal S32x256 .f32)
    (xs3 : Vec Ideal S64x2x4096 .bf16) (r b : Fin 256) :
    k0_pay23 (F := Ideal)
      (View.readAt (Elt Ideal) arg21.view (Rect.unit (s := S64x2x4096) (k0_off2 i (BitVec.ofNat 32 (256 * n))) S64x2x256.size (off2_inb i n hn)).toLoadRect (harg21.unread xs3))
      (arg18.view.readCov [⟨Rect.unit (s := S128x2x128) ![0, 0, 0] S128x2x128.size inb_S128x2x128_S128x2x128_0_0_0,
        k0_pay10 (F := Ideal) (View.readAt (Elt Ideal) arg9.view (Rect.unit (s := S32x256) ![0, 0] S32x256.size inb_S32x256_S32x256_0_0).toLoadRect (harg9.unread x7))⟩]
        (Rect.unit (s := S128x2x128) ![0, 0, 0] S128x2x128.size inb_S128x2x128_S128x2x128_0_0_0).toLoadRect) (ix2 r b)
      = KerBlock.WSBof (i 1) (k0_pay10 (F := Ideal) x7) xs3 r ⟨256 * n + b.val, by omega⟩ := by
  rw [tab_load arg9 harg9 arg18 x7, View.readAt_eq_ld, harg21.read_unread]
  exact KerBlock.wsb_of (i 1) n (by omega) _ xs3 _ (off2_eq i n hn) _ r b

theorem wsb_load_A (i : grid0.Coords) (n : Nat) (hn : n < 4) (arg9 : Memref sig .tc .vmem S32x256 .f32) (harg9 : arg9.IsWhole)
    (arg18 : Memref sig .tc .vmem S128x2x128 .bf16)
    (arg21 : Memref sig .tc .vmem S64x2x4096 .bf16) (x7 : Vec Ideal S32x256 .f32) (r b : Fin 256) :
    k0_pay23 (F := Ideal)
      (arg21.view.readCov [⟨Rect.unit (s := S64x2x4096) ![0, 0, 0] S64x2x4096.size inb_S64x2x4096_S64x2x4096_0_0_0, k0_pay6 (F := Ideal)⟩]
        (Rect.unit (s := S64x2x4096) (k0_off2 i (BitVec.ofNat 32 (256 * n))) S64x2x256.size (off2_inb i n hn)).toLoadRect)
      (arg18.view.readCov [⟨Rect.unit (s := S128x2x128) ![0, 0, 0] S128x2x128.size inb_S128x2x128_S128x2x128_0_0_0,
        k0_pay10 (F := Ideal) (View.readAt (Elt Ideal) arg9.view (Rect.unit (s := S32x256) ![0, 0] S32x256.size inb_S32x256_S32x256_0_0).toLoadRect (harg9.unread x7))⟩]
        (Rect.unit (s := S128x2x128) ![0, 0, 0] S128x2x128.size inb_S128x2x128_S128x2x128_0_0_0).toLoadRect) (ix2 r b)
      = KerBlock.WSBof (i 1) (k0_pay10 (F := Ideal) x7) (k0_pay6 (F := Ideal)) r ⟨256 * n + b.val, by omega⟩ := by
  rw [tab_load arg9 harg9 arg18 x7, View.readCov_eq_canon']
  have h := View.canon_unit_zero (Val := Elt Ideal) hz3 inb_S64x2x4096_S64x2x4096_0_0_0 (k0_pay6 (F := Ideal))
  rw [h]
  exact KerBlock.wsb_of (i 1) n (by omega) _ (k0_pay6 (F := Ideal)) _ (off2_eq i n hn) _ r b

theorem strip_load (c n : Nat) (hc : c + 32 ≤ 256) (hn : 256 * n + 256 ≤ 1024) (hs : S256x256.Slices ![c, 0] S32x256)
    (inb : ∀ a, (![c, 256 * n] : Fin 2 → Nat) a + S32x256.size a ≤ S256x1024.size a)
    {lam lam' : EReal} (hl : lam = lam') {DW WSB : Fin 256 → Fin 1024 → EReal} {dw wsb : FVec Ideal S256x256 .f32}
    (hdw : ∀ r b : Fin 256, dw (ix2 r b) = DW r ⟨256 * n + b.val, by omega⟩)
    (hwsb : ∀ r b : Fin 256, wsb (ix2 r b) = WSB r ⟨256 * n + b.val, by omega⟩)
    (arg5 : Memref sig .tc .vmem S256x1024 .bf16) (harg5 : arg5.IsWhole) (arg6 : Memref sig .tc .vmem S256x1024 .i8) (harg6 : arg6.IsWhole)
    (x3 : Vec Ideal S256x1024 .bf16) (x4 : Vec Ideal S256x1024 .i8) (x : S32x256.Idx) :
    KerPure.strip (F := Ideal) ![c, 0] hs lam dw wsb
      (View.readAt (Elt Ideal) arg5.view (Rect.unit (s := S256x1024) ![c, 256 * n] S32x256.size inb).toLoadRect (harg5.unread x3))
      (View.readAt (Elt Ideal) arg6.view (Rect.unit (s := S256x1024) ![c, 256 * n] S32x256.size inb).toLoadRect (harg6.unread x4)) x
      = KerBlock.G lam' DW WSB x3 x4 ((Rect.unit (s := S256x1024) ![c, 256 * n] S32x256.size inb).emb x) := by
  subst hl
  refine KerBlock.piece_at c n hc hn hs inb hdw hwsb x3 x4 _ _ ?_ ?_ x
  · rw [View.readAt_eq_ld, harg5.read_unread]
  · rw [View.readAt_eq_ld, harg6.read_unread]

end Cert.KerRun

end
-- ==== Proof.KerWin.lean ====
/- Hand-written, untrusted: the kernel's input blocks at a point, as entries of the argument arrays, and the gradient's
   block at the point as the reference's entries. -/
module

public import proofs.«01_k».proof.Proof.KerLoads
public import proofs.«01_k».proof.Proof.Gen.KernelIdeal.Frame.Runs
public import Idealize.ShloMosaic.Lib.Pipeline.FrameTail
public import Idealize.ShloMosaic.Lib.Claim
public import Idealize.ShloMosaic.Lib.ValueLayout

@[expose] public section

noncomputable section

namespace Cert.KerWin

open Cert.KernelIdeal Cert.KernelIdeal.Gen Cert.KerRun Idealize.ShloMosaic Idealize.ShloMosaic.TcCoe Idealize.SL.Sem

variable (m : (ℓ : Loc nD τ sig) → Buf (Elt Ideal) ℓ)

/-- The argument arrays the gradient reads. -/
abbrev A0 (c : Dev nD) : Vec Ideal S3 .f32 := m ((c : Thread nD τ).loc main_arg0)
abbrev A1 (c : Dev nD) : Vec Ideal S1792x2048 .i32 := m ((c : Thread nD τ).loc main_arg1)
abbrev A2 (c : Dev nD) : Vec Ideal S2048x4096 .fp8e4m3 := m ((c : Thread nD τ).loc main_arg2)
abbrev A3 (c : Dev nD) : Vec Ideal S3584x4096 .bf16 := m ((c : Thread nD τ).loc main_arg3)
abbrev A4 (c : Dev nD) : Vec Ideal S3584x4096 .i8 := m ((c : Thread nD τ).loc main_arg4)
abbrev A7 (c : Dev nD) : Vec Ideal S3584x32 .f32 := m ((c : Thread nD τ).loc main_arg7)

theorem lt56 (t : Fin cfg0.N) : t.val < 56 := lt_of_lt_of_eq t.isLt (show cfg0.N = 56 from N_0)

theorem chunk (t : Fin cfg0.N) : (grid0.coords t 1).val = t.val % 4 :=
  (by decide +kernel : ∀ t : Fin grid0.N, (grid0.coords t 1).val = t.val % 4) t

theorem idx0 : ∀ t : Fin cfg0.N, win0_0.index t (0 : Fin 1) = 0 := (by decide +kernel : ∀ t : Fin grid0.N, _)
theorem idx1 : ∀ t : Fin cfg0.N, win0_1.index t (0 : Fin 2) = t.val / 4 ∧ win0_1.index t (1 : Fin 2) = 0 :=
  (by decide +kernel : ∀ t : Fin grid0.N, _)
theorem idx2 : ∀ t : Fin cfg0.N, win0_2.index t (0 : Fin 2) = 0 ∧ win0_2.index t (1 : Fin 2) = 0 :=
  (by decide +kernel : ∀ t : Fin grid0.N, _)
theorem idx3 : ∀ t : Fin cfg0.N, win0_3.index t (0 : Fin 2) = t.val / 4 ∧ win0_3.index t (1 : Fin 2) = t.val % 4 :=
  (by decide +kernel : ∀ t : Fin grid0.N, _)
theorem idx4 : ∀ t : Fin cfg0.N, win0_4.index t (0 : Fin 2) = t.val / 4 ∧ win0_4.index t (1 : Fin 2) = t.val % 4 :=
  (by decide +kernel : ∀ t : Fin grid0.N, _)
theorem idx7 : ∀ t : Fin cfg0.N, win0_7.index t (0 : Fin 2) = 0 ∧ win0_7.index t (1 : Fin 2) = t.val / 4 :=
  (by decide +kernel : ∀ t : Fin grid0.N, _)

theorem iblk0_at (c : Dev nD) (t : Fin cfg0.N) : iblk m c 0 t (word 0) = A0 m c (word 0) := by
  refine Eq.trans (congrFun (V_main_arg0 m c) _) (congrArg (A0 m c) ?_)
  have e0 := idx0 t
  funext a; apply Fin.ext
  match a with
  | ⟨0, _⟩ => show win0_0.index t (0 : Fin 1) * 3 + 1 * 0 = 0; omega

theorem iblk1_at (c : Dev nD) (t : Fin cfg0.N) (r : Fin 128) (u : Fin 2048) :
    iblk m c 1 t (ix2 (n0 := 128) (n1 := 2048) r u)
      = A1 m c (ix2 (n0 := 1792) (n1 := 2048) ⟨128 * (t.val / 4) + r.val, by have := lt56 t; omega⟩ u) := by
  refine Eq.trans (congrFun (V_main_arg1 m c) _) (congrArg (A1 m c) ?_)
  obtain ⟨e0, e1⟩ := idx1 t
  funext a; apply Fin.ext
  match a with
  | ⟨0, _⟩ => show win0_1.index t (0 : Fin 2) * 128 + 1 * r.val = 128 * (t.val / 4) + r.val; omega
  | ⟨1, _⟩ => show win0_1.index t (1 : Fin 2) * 2048 + 1 * u.val = u.val; omega

theorem iblk2_at (c : Dev nD) (t : Fin cfg0.N) (u : Fin 2048) (n : Fin 4096) :
    iblk m c 2 t (ix2 (n0 := 2048) (n1 := 4096) u n) = A2 m c (ix2 (n0 := 2048) (n1 := 4096) u n) := by
  refine Eq.trans (congrFun (V_main_arg2 m c) _) (congrArg (A2 m c) ?_)
  obtain ⟨e0, e1⟩ := idx2 t
  funext a; apply Fin.ext
  match a with
  | ⟨0, _⟩ => show win0_2.index t (0 : Fin 2) * 2048 + 1 * u.val = u.val; omega
  | ⟨1, _⟩ => show win0_2.index t (1 : Fin 2) * 4096 + 1 * n.val = n.val; omega

theorem iblk3_at (c : Dev nD) (t : Fin cfg0.N) (p : Fin 256) (q : Fin 1024) :
    iblk m c 3 t (ix2 (n0 := 256) (n1 := 1024) p q)
      = A3 m c (ix2 (n0 := 3584) (n1 := 4096) ⟨256 * (t.val / 4) + p.val, by have := lt56 t; omega⟩ ⟨1024 * (t.val % 4) + q.val, by omega⟩) := by
  refine Eq.trans (congrFun (V_main_arg3 m c) _) (congrArg (A3 m c) ?_)
  obtain ⟨e0, e1⟩ := idx3 t
  funext a; apply Fin.ext
  match a with
  | ⟨0, _⟩ => show win0_3.index t (0 : Fin 2) * 256 + 1 * p.val = 256 * (t.val / 4) + p.val; omega
  | ⟨1, _⟩ => show win0_3.index t (1 : Fin 2) * 1024 + 1 * q.val = 1024 * (t.val % 4) + q.val; omega

theorem iblk4_at (c : Dev nD) (t : Fin cfg0.N) (p : Fin 256) (q : Fin 1024) :
    iblk m c 4 t (ix2 (n0 := 256) (n1 := 1024) p q)
      = A4 m c (ix2 (n0 := 3584) (n1 := 4096) ⟨256 * (t.val / 4) + p.val, by have := lt56 t; omega⟩ ⟨1024 * (t.val % 4) + q.val, by omega⟩) := by
  refine Eq.trans (congrFun (V_main_arg4 m c) _) (congrArg (A4 m c) ?_)
  obtain ⟨e0, e1⟩ := idx4 t
  funext a; apply Fin.ext
  match a with
  | ⟨0, _⟩ => show win0_4.index t (0 : Fin 2) * 256 + 1 * p.val = 256 * (t.val / 4) + p.val; omega
  | ⟨1, _⟩ => show win0_4.index t (1 : Fin 2) * 1024 + 1 * q.val = 1024 * (t.val % 4) + q.val; omega

theorem V_main_v0 (c : Dev nD) : V m c main_v0
    = (transpose S32x3584 [1, 0] (A7 m c) transposes_S3584x32_S32x3584_1_0 : (⟨S32x3584, .f32⟩ : BufTy).Contents (Elt Ideal)) := by
  show StableHlo.after hostOps0 _ (Proc.devRef .tc main_v0) = _
  unfold_abbrev_sides
  after_results

theorem iblk7_at (c : Dev nD) (t : Fin cfg0.N) (g : Fin 32) (p : Fin 256) :
    iblk m c 7 t (ix2 (n0 := 32) (n1 := 256) g p)
      = A7 m c (ix2 (n0 := 3584) (n1 := 32) ⟨256 * (t.val / 4) + p.val, by have := lt56 t; omega⟩ g) := by
  refine Eq.trans ?_ (ValueIdx.transpose_ix2_apply (A7 m c) transposes_S3584x32_S32x3584_1_0 g ⟨256 * (t.val / 4) + p.val, by have := lt56 t; omega⟩)
  show V m c main_v0 (((cfg0.win 7).blk t).view.emb (ix2 (n0 := 32) (n1 := 256) g p)) = _
  rw [V_main_v0 m c]
  refine congrArg (transpose S32x3584 [1, 0] (A7 m c) transposes_S3584x32_S32x3584_1_0 : (⟨S32x3584, .f32⟩ : BufTy).Contents (Elt Ideal)) ?_
  obtain ⟨e0, e1⟩ := idx7 t
  funext a; apply Fin.ext
  match a with
  | ⟨0, _⟩ => show win0_7.index t (0 : Fin 2) * 32 + 1 * g.val = g.val; omega
  | ⟨1, _⟩ => show win0_7.index t (1 : Fin 2) * 256 + 1 * p.val = 256 * (t.val / 4) + p.val; omega

/-- Within a row block the scales' block stays. -/
theorem iblk7_keep (c : Dev nD) (t t' : Fin cfg0.N) (h : t.val / 4 = t'.val / 4) : iblk m c 7 t = iblk m c 7 t' := by
  have key : ∀ x : S32x256.Idx, iblk m c 7 t x = iblk m c 7 t' x := fun x => by
    have hx : x = ix2 (n0 := 32) (n1 := 256) (x 0) (x 1) := by
      funext d; match d with
      | ⟨0, _⟩ => rfl
      | ⟨1, _⟩ => rfl
    rw [hx]
    refine (iblk7_at m c t (x 0) (x 1)).trans (Eq.trans ?_ (iblk7_at m c t' (x 0) (x 1)).symm)
    congr 2
    exact Fin.ext (by simp only [h])
  exact funext key

/-- The table a row block's first point writes. -/
def tab (c : Dev nD) (t : Fin cfg0.N) : Vec Ideal S128x2x128 .bf16 := k0_pay10 (F := Ideal) (iblk m c 7 t)

/-- The gradient's block at a point. -/
def blk (c : Dev nD) (t : Fin cfg0.N) : Vec Ideal S256x1024 .f32 :=
  KerBlock.G (lamOf (iblk m c 0 t)) (KerBlock.DWof (grid0.coords t 1) (iblk m c 1 t) (iblk m c 2 t))
    (KerBlock.WSBof (grid0.coords t 1) (tab m c t) (k0_pay6 (F := Ideal))) (iblk m c 3 t) (iblk m c 4 t)

theorem dw_eq (c : Dev nD) (t : Fin cfg0.N) (p : Fin 256) (q : Fin 1024) (r : Fin 3584) (n : Fin 4096)
    (hr : r.val = 256 * (t.val / 4) + p.val) (hn : n.val = 1024 * (t.val % 4) + q.val) :
    KerBlock.DWof (grid0.coords t 1) (iblk m c 1 t) (iblk m c 2 t) p q
      = ∑ u : Fin 2048, Ideal.ofBits .bf16 (BitVec.extractLsb' (r.val % 2 * 16) 16 (A1 m c (ix2 (n0 := 1792) (n1 := 2048) ⟨r.val / 2, by omega⟩ u)))
          * A2 m c (ix2 (n0 := 2048) (n1 := 4096) u n) := by
  unfold KerBlock.DWof
  have hc := chunk t
  refine Finset.sum_congr rfl fun u _ => ?_
  have e1 := iblk1_at m c t ⟨p.val / 2, by omega⟩ u
  have e2 := iblk2_at m c t u ⟨1024 * (grid0.coords t 1).val + q.val, by omega⟩
  have i1 : (⟨128 * (t.val / 4) + p.val / 2, by have := lt56 t; omega⟩ : Fin 1792) = ⟨r.val / 2, by omega⟩ := Fin.ext (by simp only []; omega)
  have i2 : (⟨1024 * (grid0.coords t 1).val + q.val, by omega⟩ : Fin 4096) = n := Fin.ext (by simp only []; omega)
  have i3 : p.val % 2 * 16 = r.val % 2 * 16 := by omega
  refine congrArg₂ (· * ·) ?_ (e2.trans (by rw [i2]))
  refine congrArg (Ideal.ofBits .bf16) ?_
  rw [i3]
  exact congrArg (BitVec.extractLsb' (r.val % 2 * 16) 16) (e1.trans (by simp only [i1]))

theorem wsb_eq (c : Dev nD) (t : Fin cfg0.N) (p : Fin 256) (q : Fin 1024) (r : Fin 3584) (n : Fin 4096)
    (hr : r.val = 256 * (t.val / 4) + p.val) (hn : n.val = 1024 * (t.val % 4) + q.val)
    (hf : ∀ g : Fin 32, ∃ x : ℝ, A7 m c (ix2 (n0 := 3584) (n1 := 32) r g) = x) :
    KerBlock.WSBof (grid0.coords t 1) (tab m c t) (k0_pay6 (F := Ideal)) p q
      = A7 m c (ix2 (n0 := 3584) (n1 := 32) r ⟨n.val / 128, by omega⟩) * ((3 / 10 : ℝ) : EReal) := by
  have hc := chunk t
  let f : Fin 32 → EReal := fun g => A7 m c (ix2 (n0 := 3584) (n1 := 32) r g) * ((3 / 10 : ℝ) : EReal)
  have hff : ∀ g, ∃ x : ℝ, f g = x := fun g => by
    obtain ⟨x, hx⟩ := hf g
    exact ⟨x * (3 / 10), by show _ * _ = _; rw [hx, EReal.coe_mul]⟩
  refine Eq.trans ?_ (KerPure.sum_parts f hff ⟨n.val / 128, by omega⟩)
  unfold KerBlock.WSBof tab
  refine Finset.sum_congr rfl fun k _ => ?_
  rw [KerPure.tab_at, KerPure.spread_at]
  have i1 : (⟨2 * (p.val / 2) + p.val % 2, by omega⟩ : Fin 256) = p := Fin.ext (by simp only []; omega)
  have i2 : (⟨256 * (t.val / 4) + p.val, by have := lt56 t; omega⟩ : Fin 3584) = r := Fin.ext hr.symm
  have e7 := iblk7_at m c t ⟨k.val % 32, by omega⟩ p
  rw [i2] at e7
  have k1 : 2 * (k.val / 2) + k.val % 2 = k.val := by omega
  have k2 : (1024 * (grid0.coords t 1).val + q.val) / 128 = n.val / 128 := by omega
  simp only [i1, k1, k2]
  refine congrArg (· * _) ?_
  exact congrArg (fun z : EReal => KerPure.part (z * ((3 / 10 : ℝ) : EReal)) (k.val / 32)) e7

/-- An entry of a point's block is the reference's. -/
theorem blk_at (c : Dev nD) (t : Fin cfg0.N) (p : Fin 256) (q : Fin 1024) (r : Fin 3584) (n : Fin 4096)
    (hr : r.val = 256 * (t.val / 4) + p.val) (hn : n.val = 1024 * (t.val % 4) + q.val)
    (hf : ∀ g : Fin 32, ∃ x : ℝ, A7 m c (ix2 (n0 := 3584) (n1 := 32) r g) = x) :
    blk m c t (ix2 (n0 := 256) (n1 := 1024) p q)
      = Scalar.dvRef (A0 m c (word 0))
          (∑ u : Fin 2048, Ideal.ofBits .bf16 (BitVec.extractLsb' (r.val % 2 * 16) 16 (A1 m c (ix2 (n0 := 1792) (n1 := 2048) ⟨r.val / 2, by omega⟩ u)))
            * A2 m c (ix2 (n0 := 2048) (n1 := 4096) u n))
          (A7 m c (ix2 (n0 := 3584) (n1 := 32) r ⟨n.val / 128, by omega⟩))
          (A3 m c (ix2 (n0 := 3584) (n1 := 4096) r n))
          (A4 m c (ix2 (n0 := 3584) (n1 := 4096) r n) ≠ 0) := by
  have e0 := iblk0_at m c t
  have e3 := iblk3_at m c t p q
  have e4 := iblk4_at m c t p q
  have i1 : (⟨256 * (t.val / 4) + p.val, by have := lt56 t; omega⟩ : Fin 3584) = r := Fin.ext hr.symm
  have i2 : (⟨1024 * (t.val % 4) + q.val, by omega⟩ : Fin 4096) = n := Fin.ext hn.symm
  rw [i1, i2] at e3 e4
  rw [← Scalar.dv_eq, ← dw_eq m c t p q r n hr hn, ← wsb_eq m c t p q r n hr hn hf, ← e0, ← e3, ← e4]
  rfl

end Cert.KerWin

end
-- ==== Proof.KerRunA.lean ====
/- Hand-written, untrusted: the stores of case A's gradient, each a strip of the block's function. -/
module

public import proofs.«01_k».proof.Proof.KerLoads
public import proofs.«01_k».proof.Proof.Gen.KernelIdeal.Frame.RunA

@[expose] public section

set_option maxRecDepth 100000

noncomputable section

namespace Cert.KerRun

open Cert.KernelIdeal Cert.KernelIdeal.Gen Idealize.ShloMosaic Idealize.ShloMosaic.TcCoe Idealize.ShloMosaic.Tactic

theorem pieces_A  (c : Dev nD) (i : grid0.Coords) (arg2 : Memref sig .tc .smem S3 .f32) (harg2 : arg2.IsWhole) (arg3 : Memref sig .tc .vmem S128x2048 .i32) (harg3 : arg3.IsWhole) (arg4 : Memref sig .tc .vmem S2048x4096 .fp8e4m3) (harg4 : arg4.IsWhole) (arg5 : Memref sig .tc .vmem S256x1024 .bf16) (harg5 : arg5.IsWhole) (arg6 : Memref sig .tc .vmem S256x1024 .i8) (harg6 : arg6.IsWhole) (arg7 : Memref sig .tc .vmem S256x1024 .i8) (harg7 : arg7.IsWhole) (arg8 : Memref sig .tc .vmem S256x1024 .i8) (harg8 : arg8.IsWhole) (arg9 : Memref sig .tc .vmem S32x256 .f32) (harg9 : arg9.IsWhole) (arg10 : Memref sig .tc .vmem S32x256 .f32) (harg10 : arg10.IsWhole) (arg11 : Memref sig .tc .vmem S32x256 .f32) (harg11 : arg11.IsWhole) (arg12 : Memref sig .tc .vmem S256x1024 .f32) (harg12 : arg12.IsWhole) (arg13 : Memref sig .tc .vmem S256x1024 .bf16) (harg13 : arg13.IsWhole) (arg14 : Memref sig .tc .vmem S256x1024 .i8) (harg14 : arg14.IsWhole) (arg15 : Memref sig .tc .vmem S256x1024 .i8) (harg15 : arg15.IsWhole) (arg16 : Memref sig .tc .vmem S32x256 .f32) (harg16 : arg16.IsWhole) (arg17 : Memref sig .tc .vmem S32x256 .f32) (harg17 : arg17.IsWhole) (arg18 : Memref sig .tc .vmem S128x2x128 .bf16) (harg18 : arg18.IsWhole) (arg19 : Memref sig .tc .vmem S128x2x128 .bf16) (harg19 : arg19.IsWhole) (arg20 : Memref sig .tc .vmem S128x2x128 .bf16) (harg20 : arg20.IsWhole) (arg21 : Memref sig .tc .vmem S64x2x4096 .bf16) (harg21 : arg21.IsWhole) (arg22 : Memref sig .tc .vmem S256x1024 .f32) (harg22 : arg22.IsWhole) (arg23 : Memref sig .tc .vmem S256x1024 .f32) (harg23 : arg23.IsWhole) (arg24 : Memref sig .tc .vmem S256x1024 .f32) (harg24 : arg24.IsWhole) (arg25 : Memref sig .tc .vmem S256x1024 .f32) (harg25 : arg25.IsWhole) (arg26 : Memref sig .tc .vmem S256x128 .f32) (harg26 : arg26.IsWhole) (arg27 : Memref sig .tc .vmem S256x128 .f32) (harg27 : arg27.IsWhole) (arg28 : Memref sig .tc .vmem S256x128 .f32) (harg28 : arg28.IsWhole) (arg29 : Memref sig .tc .vmem S256x128 .f32) (harg29 : arg29.IsWhole) (hc0 : cond0_0 i) (hc1 : cond0_1 i) (hc2 : ¬cond0_2 i)
    (x0 : Vec Ideal S3 .f32) (x1 : Vec Ideal S128x2048 .i32) (x2 : Vec Ideal S2048x4096 .fp8e4m3) (x3 : Vec Ideal S256x1024 .bf16) (x4 : Vec Ideal S256x1024 .i8) (x5 : Vec Ideal S256x1024 .i8) (x6 : Vec Ideal S256x1024 .i8) (x7 : Vec Ideal S32x256 .f32) (x8 : Vec Ideal S32x256 .f32) (x9 : Vec Ideal S32x256 .f32) :
    ∀ p ∈ (kernelRun0_A (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 hc0 hc1 hc2 x0 x1 x2 x3 x4 x5 x6 x7 x8 x9).1, ∀ x, p.2 x = KerBlock.G (lamOf x0) (KerBlock.DWof (i 1) x1 x2) (KerBlock.WSBof (i 1) (k0_pay10 (F := Ideal) x7) (k0_pay6 (F := Ideal))) x3 x4 (p.1.emb x) := by
  have hl : k0_pay17 (F := Ideal) (View.readAt (Elt Ideal) arg2.view (Rect.unit (s := S3) ![0] S1.size inb_S3_S1_0).toLoadRect (harg2.unread x0) (Shape.Idx.first (by decide))) = lamOf x0 :=
    lam_load arg2 harg2 x0

  have hd0 := dw_load i 0 (by decide) arg3 harg3 arg4 harg4 x1 x2
  have hw0 : ∀ r b : Fin 256, k0_pay23 (F := Ideal) (arg21.view.readCov [⟨Rect.unit (s := S64x2x4096) ![0, 0, 0] S64x2x4096.size inb_S64x2x4096_S64x2x4096_0_0_0, k0_pay6 (F := Ideal)⟩] (Rect.unit (s := S64x2x4096) (k0_off2 i (0#32)) S64x2x256.size (k0_off2_inb i (0 : Fin 4))).toLoadRect) (arg18.view.readCov [⟨Rect.unit (s := S128x2x128) ![0, 0, 0] S128x2x128.size inb_S128x2x128_S128x2x128_0_0_0, k0_pay10 (F := Ideal) (View.readAt (Elt Ideal) arg9.view (Rect.unit (s := S32x256) ![0, 0] S32x256.size inb_S32x256_S32x256_0_0).toLoadRect (harg9.unread x7))⟩] (Rect.unit (s := S128x2x128) ![0, 0, 0] S128x2x128.size inb_S128x2x128_S128x2x128_0_0_0).toLoadRect) (ix2 r b) = KerBlock.WSBof (i 1) (k0_pay10 (F := Ideal) x7) (k0_pay6 (F := Ideal)) r ⟨0 + b.val, by omega⟩ := wsb_load_A i 0 (by decide) arg9 harg9 arg18 arg21 x7
  have hd1 := dw_load i 1 (by decide) arg3 harg3 arg4 harg4 x1 x2
  have hw1 : ∀ r b : Fin 256, k0_pay23 (F := Ideal) (arg21.view.readCov [⟨Rect.unit (s := S64x2x4096) ![0, 0, 0] S64x2x4096.size inb_S64x2x4096_S64x2x4096_0_0_0, k0_pay6 (F := Ideal)⟩] (Rect.unit (s := S64x2x4096) (k0_off2 i (256#32)) S64x2x256.size (k0_off2_inb i (1 : Fin 4))).toLoadRect) (arg18.view.readCov [⟨Rect.unit (s := S128x2x128) ![0, 0, 0] S128x2x128.size inb_S128x2x128_S128x2x128_0_0_0, k0_pay10 (F := Ideal) (View.readAt (Elt Ideal) arg9.view (Rect.unit (s := S32x256) ![0, 0] S32x256.size inb_S32x256_S32x256_0_0).toLoadRect (harg9.unread x7))⟩] (Rect.unit (s := S128x2x128) ![0, 0, 0] S128x2x128.size inb_S128x2x128_S128x2x128_0_0_0).toLoadRect) (ix2 r b) = KerBlock.WSBof (i 1) (k0_pay10 (F := Ideal) x7) (k0_pay6 (F := Ideal)) r ⟨256 + b.val, by omega⟩ := wsb_load_A i 1 (by decide) arg9 harg9 arg18 arg21 x7
  have hd2 := dw_load i 2 (by decide) arg3 harg3 arg4 harg4 x1 x2
  have hw2 : ∀ r b : Fin 256, k0_pay23 (F := Ideal) (arg21.view.readCov [⟨Rect.unit (s := S64x2x4096) ![0, 0, 0] S64x2x4096.size inb_S64x2x4096_S64x2x4096_0_0_0, k0_pay6 (F := Ideal)⟩] (Rect.unit (s := S64x2x4096) (k0_off2 i (512#32)) S64x2x256.size (k0_off2_inb i (2 : Fin 4))).toLoadRect) (arg18.view.readCov [⟨Rect.unit (s := S128x2x128) ![0, 0, 0] S128x2x128.size inb_S128x2x128_S128x2x128_0_0_0, k0_pay10 (F := Ideal) (View.readAt (Elt Ideal) arg9.view (Rect.unit (s := S32x256) ![0, 0] S32x256.size inb_S32x256_S32x256_0_0).toLoadRect (harg9.unread x7))⟩] (Rect.unit (s := S128x2x128) ![0, 0, 0] S128x2x128.size inb_S128x2x128_S128x2x128_0_0_0).toLoadRect) (ix2 r b) = KerBlock.WSBof (i 1) (k0_pay10 (F := Ideal) x7) (k0_pay6 (F := Ideal)) r ⟨512 + b.val, by omega⟩ := wsb_load_A i 2 (by decide) arg9 harg9 arg18 arg21 x7
  have hd3 := dw_load i 3 (by decide) arg3 harg3 arg4 harg4 x1 x2
  have hw3 : ∀ r b : Fin 256, k0_pay23 (F := Ideal) (arg21.view.readCov [⟨Rect.unit (s := S64x2x4096) ![0, 0, 0] S64x2x4096.size inb_S64x2x4096_S64x2x4096_0_0_0, k0_pay6 (F := Ideal)⟩] (Rect.unit (s := S64x2x4096) (k0_off2 i (768#32)) S64x2x256.size (k0_off2_inb i (3 : Fin 4))).toLoadRect) (arg18.view.readCov [⟨Rect.unit (s := S128x2x128) ![0, 0, 0] S128x2x128.size inb_S128x2x128_S128x2x128_0_0_0, k0_pay10 (F := Ideal) (View.readAt (Elt Ideal) arg9.view (Rect.unit (s := S32x256) ![0, 0] S32x256.size inb_S32x256_S32x256_0_0).toLoadRect (harg9.unread x7))⟩] (Rect.unit (s := S128x2x128) ![0, 0, 0] S128x2x128.size inb_S128x2x128_S128x2x128_0_0_0).toLoadRect) (ix2 r b) = KerBlock.WSBof (i 1) (k0_pay10 (F := Ideal) x7) (k0_pay6 (F := Ideal)) r ⟨768 + b.val, by omega⟩ := wsb_load_A i 3 (by decide) arg9 harg9 arg18 arg21 x7
  unfold kernelRun0_A
  dsimp only
  iterate 8
    refine List.forall_mem_cons.mpr ⟨fun x => strip_load _ 3 (by decide) (by decide) (by decide) _ hl hd3 hw3 arg5 harg5 arg6 harg6 x3 x4 x, ?_⟩
  iterate 8
    refine List.forall_mem_cons.mpr ⟨fun x => strip_load _ 2 (by decide) (by decide) (by decide) _ hl hd2 hw2 arg5 harg5 arg6 harg6 x3 x4 x, ?_⟩
  iterate 8
    refine List.forall_mem_cons.mpr ⟨fun x => strip_load _ 1 (by decide) (by decide) (by decide) _ hl hd1 hw1 arg5 harg5 arg6 harg6 x3 x4 x, ?_⟩
  iterate 8
    refine List.forall_mem_cons.mpr ⟨fun x => strip_load _ 0 (by decide) (by decide) (by decide) _ hl hd0 hw0 arg5 harg5 arg6 harg6 x3 x4 x, ?_⟩
  exact fun p hp => absurd hp (List.not_mem_nil)

theorem tabs_A  (c : Dev nD) (i : grid0.Coords) (arg2 : Memref sig .tc .smem S3 .f32) (harg2 : arg2.IsWhole) (arg3 : Memref sig .tc .vmem S128x2048 .i32) (harg3 : arg3.IsWhole) (arg4 : Memref sig .tc .vmem S2048x4096 .fp8e4m3) (harg4 : arg4.IsWhole) (arg5 : Memref sig .tc .vmem S256x1024 .bf16) (harg5 : arg5.IsWhole) (arg6 : Memref sig .tc .vmem S256x1024 .i8) (harg6 : arg6.IsWhole) (arg7 : Memref sig .tc .vmem S256x1024 .i8) (harg7 : arg7.IsWhole) (arg8 : Memref sig .tc .vmem S256x1024 .i8) (harg8 : arg8.IsWhole) (arg9 : Memref sig .tc .vmem S32x256 .f32) (harg9 : arg9.IsWhole) (arg10 : Memref sig .tc .vmem S32x256 .f32) (harg10 : arg10.IsWhole) (arg11 : Memref sig .tc .vmem S32x256 .f32) (harg11 : arg11.IsWhole) (arg12 : Memref sig .tc .vmem S256x1024 .f32) (harg12 : arg12.IsWhole) (arg13 : Memref sig .tc .vmem S256x1024 .bf16) (harg13 : arg13.IsWhole) (arg14 : Memref sig .tc .vmem S256x1024 .i8) (harg14 : arg14.IsWhole) (arg15 : Memref sig .tc .vmem S256x1024 .i8) (harg15 : arg15.IsWhole) (arg16 : Memref sig .tc .vmem S32x256 .f32) (harg16 : arg16.IsWhole) (arg17 : Memref sig .tc .vmem S32x256 .f32) (harg17 : arg17.IsWhole) (arg18 : Memref sig .tc .vmem S128x2x128 .bf16) (harg18 : arg18.IsWhole) (arg19 : Memref sig .tc .vmem S128x2x128 .bf16) (harg19 : arg19.IsWhole) (arg20 : Memref sig .tc .vmem S128x2x128 .bf16) (harg20 : arg20.IsWhole) (arg21 : Memref sig .tc .vmem S64x2x4096 .bf16) (harg21 : arg21.IsWhole) (arg22 : Memref sig .tc .vmem S256x1024 .f32) (harg22 : arg22.IsWhole) (arg23 : Memref sig .tc .vmem S256x1024 .f32) (harg23 : arg23.IsWhole) (arg24 : Memref sig .tc .vmem S256x1024 .f32) (harg24 : arg24.IsWhole) (arg25 : Memref sig .tc .vmem S256x1024 .f32) (harg25 : arg25.IsWhole) (arg26 : Memref sig .tc .vmem S256x128 .f32) (harg26 : arg26.IsWhole) (arg27 : Memref sig .tc .vmem S256x128 .f32) (harg27 : arg27.IsWhole) (arg28 : Memref sig .tc .vmem S256x128 .f32) (harg28 : arg28.IsWhole) (arg29 : Memref sig .tc .vmem S256x128 .f32) (harg29 : arg29.IsWhole) (hc0 : cond0_0 i) (hc1 : cond0_1 i) (hc2 : ¬cond0_2 i)
    (x0 : Vec Ideal S3 .f32) (x1 : Vec Ideal S128x2048 .i32) (x2 : Vec Ideal S2048x4096 .fp8e4m3) (x3 : Vec Ideal S256x1024 .bf16) (x4 : Vec Ideal S256x1024 .i8) (x5 : Vec Ideal S256x1024 .i8) (x6 : Vec Ideal S256x1024 .i8) (x7 : Vec Ideal S32x256 .f32) (x8 : Vec Ideal S32x256 .f32) (x9 : Vec Ideal S32x256 .f32) :
    View.canon (kernelRun0_A (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 hc0 hc1 hc2 x0 x1 x2 x3 x4 x5 x6 x7 x8 x9).2.2.2.2.2.2.1 = k0_pay10 (F := Ideal) x7 := by
  have h : (kernelRun0_A (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 hc0 hc1 hc2 x0 x1 x2 x3 x4 x5 x6 x7 x8 x9).2.2.2.2.2.2.1 = [⟨Rect.unit (s := S128x2x128) ![0, 0, 0] S128x2x128.size inb_S128x2x128_S128x2x128_0_0_0,
      k0_pay10 (F := Ideal) (View.readAt (Elt Ideal) arg9.view (Rect.unit (s := S32x256) ![0, 0] S32x256.size inb_S32x256_S32x256_0_0).toLoadRect (harg9.unread x7))⟩] := rfl
  rw [h, View.readAt_eq_ld, harg9.read_unread, View.ld_unit_zero hz2]
  exact View.canon_unit_zero (Val := Elt Ideal) hz3 inb_S128x2x128_S128x2x128_0_0_0 (k0_pay10 (F := Ideal) x7)

theorem spread_A  (c : Dev nD) (i : grid0.Coords) (arg2 : Memref sig .tc .smem S3 .f32) (harg2 : arg2.IsWhole) (arg3 : Memref sig .tc .vmem S128x2048 .i32) (harg3 : arg3.IsWhole) (arg4 : Memref sig .tc .vmem S2048x4096 .fp8e4m3) (harg4 : arg4.IsWhole) (arg5 : Memref sig .tc .vmem S256x1024 .bf16) (harg5 : arg5.IsWhole) (arg6 : Memref sig .tc .vmem S256x1024 .i8) (harg6 : arg6.IsWhole) (arg7 : Memref sig .tc .vmem S256x1024 .i8) (harg7 : arg7.IsWhole) (arg8 : Memref sig .tc .vmem S256x1024 .i8) (harg8 : arg8.IsWhole) (arg9 : Memref sig .tc .vmem S32x256 .f32) (harg9 : arg9.IsWhole) (arg10 : Memref sig .tc .vmem S32x256 .f32) (harg10 : arg10.IsWhole) (arg11 : Memref sig .tc .vmem S32x256 .f32) (harg11 : arg11.IsWhole) (arg12 : Memref sig .tc .vmem S256x1024 .f32) (harg12 : arg12.IsWhole) (arg13 : Memref sig .tc .vmem S256x1024 .bf16) (harg13 : arg13.IsWhole) (arg14 : Memref sig .tc .vmem S256x1024 .i8) (harg14 : arg14.IsWhole) (arg15 : Memref sig .tc .vmem S256x1024 .i8) (harg15 : arg15.IsWhole) (arg16 : Memref sig .tc .vmem S32x256 .f32) (harg16 : arg16.IsWhole) (arg17 : Memref sig .tc .vmem S32x256 .f32) (harg17 : arg17.IsWhole) (arg18 : Memref sig .tc .vmem S128x2x128 .bf16) (harg18 : arg18.IsWhole) (arg19 : Memref sig .tc .vmem S128x2x128 .bf16) (harg19 : arg19.IsWhole) (arg20 : Memref sig .tc .vmem S128x2x128 .bf16) (harg20 : arg20.IsWhole) (arg21 : Memref sig .tc .vmem S64x2x4096 .bf16) (harg21 : arg21.IsWhole) (arg22 : Memref sig .tc .vmem S256x1024 .f32) (harg22 : arg22.IsWhole) (arg23 : Memref sig .tc .vmem S256x1024 .f32) (harg23 : arg23.IsWhole) (arg24 : Memref sig .tc .vmem S256x1024 .f32) (harg24 : arg24.IsWhole) (arg25 : Memref sig .tc .vmem S256x1024 .f32) (harg25 : arg25.IsWhole) (arg26 : Memref sig .tc .vmem S256x128 .f32) (harg26 : arg26.IsWhole) (arg27 : Memref sig .tc .vmem S256x128 .f32) (harg27 : arg27.IsWhole) (arg28 : Memref sig .tc .vmem S256x128 .f32) (harg28 : arg28.IsWhole) (arg29 : Memref sig .tc .vmem S256x128 .f32) (harg29 : arg29.IsWhole) (hc0 : cond0_0 i) (hc1 : cond0_1 i) (hc2 : ¬cond0_2 i)
    (x0 : Vec Ideal S3 .f32) (x1 : Vec Ideal S128x2048 .i32) (x2 : Vec Ideal S2048x4096 .fp8e4m3) (x3 : Vec Ideal S256x1024 .bf16) (x4 : Vec Ideal S256x1024 .i8) (x5 : Vec Ideal S256x1024 .i8) (x6 : Vec Ideal S256x1024 .i8) (x7 : Vec Ideal S32x256 .f32) (x8 : Vec Ideal S32x256 .f32) (x9 : Vec Ideal S32x256 .f32) :
    View.canon (kernelRun0_A (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 hc0 hc1 hc2 x0 x1 x2 x3 x4 x5 x6 x7 x8 x9).2.2.2.2.2.2.2.2.2.1 = k0_pay6 (F := Ideal) := by
  have h : (kernelRun0_A (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 hc0 hc1 hc2 x0 x1 x2 x3 x4 x5 x6 x7 x8 x9).2.2.2.2.2.2.2.2.2.1 = [⟨Rect.unit (s := S64x2x4096) ![0, 0, 0] S64x2x4096.size inb_S64x2x4096_S64x2x4096_0_0_0, k0_pay6 (F := Ideal)⟩] := rfl
  rw [h]
  exact View.canon_unit_zero (Val := Elt Ideal) hz3 inb_S64x2x4096_S64x2x4096_0_0_0 (k0_pay6 (F := Ideal))

end Cert.KerRun

end
-- ==== Proof.KerRunB.lean ====
/- Hand-written, untrusted: the stores of case B's gradient, each a strip of the block's function. -/
module

public import proofs.«01_k».proof.Proof.KerLoads
public import proofs.«01_k».proof.Proof.Gen.KernelIdeal.Frame.RunB

@[expose] public section

set_option maxRecDepth 100000

noncomputable section

namespace Cert.KerRun

open Cert.KernelIdeal Cert.KernelIdeal.Gen Idealize.ShloMosaic Idealize.ShloMosaic.TcCoe Idealize.ShloMosaic.Tactic

theorem pieces_B  (c : Dev nD) (i : grid0.Coords) (arg2 : Memref sig .tc .smem S3 .f32) (harg2 : arg2.IsWhole) (arg3 : Memref sig .tc .vmem S128x2048 .i32) (harg3 : arg3.IsWhole) (arg4 : Memref sig .tc .vmem S2048x4096 .fp8e4m3) (harg4 : arg4.IsWhole) (arg5 : Memref sig .tc .vmem S256x1024 .bf16) (harg5 : arg5.IsWhole) (arg6 : Memref sig .tc .vmem S256x1024 .i8) (harg6 : arg6.IsWhole) (arg7 : Memref sig .tc .vmem S256x1024 .i8) (harg7 : arg7.IsWhole) (arg8 : Memref sig .tc .vmem S256x1024 .i8) (harg8 : arg8.IsWhole) (arg9 : Memref sig .tc .vmem S32x256 .f32) (harg9 : arg9.IsWhole) (arg10 : Memref sig .tc .vmem S32x256 .f32) (harg10 : arg10.IsWhole) (arg11 : Memref sig .tc .vmem S32x256 .f32) (harg11 : arg11.IsWhole) (arg12 : Memref sig .tc .vmem S256x1024 .f32) (harg12 : arg12.IsWhole) (arg13 : Memref sig .tc .vmem S256x1024 .bf16) (harg13 : arg13.IsWhole) (arg14 : Memref sig .tc .vmem S256x1024 .i8) (harg14 : arg14.IsWhole) (arg15 : Memref sig .tc .vmem S256x1024 .i8) (harg15 : arg15.IsWhole) (arg16 : Memref sig .tc .vmem S32x256 .f32) (harg16 : arg16.IsWhole) (arg17 : Memref sig .tc .vmem S32x256 .f32) (harg17 : arg17.IsWhole) (arg18 : Memref sig .tc .vmem S128x2x128 .bf16) (harg18 : arg18.IsWhole) (arg19 : Memref sig .tc .vmem S128x2x128 .bf16) (harg19 : arg19.IsWhole) (arg20 : Memref sig .tc .vmem S128x2x128 .bf16) (harg20 : arg20.IsWhole) (arg21 : Memref sig .tc .vmem S64x2x4096 .bf16) (harg21 : arg21.IsWhole) (arg22 : Memref sig .tc .vmem S256x1024 .f32) (harg22 : arg22.IsWhole) (arg23 : Memref sig .tc .vmem S256x1024 .f32) (harg23 : arg23.IsWhole) (arg24 : Memref sig .tc .vmem S256x1024 .f32) (harg24 : arg24.IsWhole) (arg25 : Memref sig .tc .vmem S256x1024 .f32) (harg25 : arg25.IsWhole) (arg26 : Memref sig .tc .vmem S256x128 .f32) (harg26 : arg26.IsWhole) (arg27 : Memref sig .tc .vmem S256x128 .f32) (harg27 : arg27.IsWhole) (arg28 : Memref sig .tc .vmem S256x128 .f32) (harg28 : arg28.IsWhole) (arg29 : Memref sig .tc .vmem S256x128 .f32) (harg29 : arg29.IsWhole) (hc0 : ¬cond0_0 i) (hc1 : ¬cond0_1 i) (hc2 : ¬cond0_2 i)
    (x0 : Vec Ideal S3 .f32) (x1 : Vec Ideal S128x2048 .i32) (x2 : Vec Ideal S2048x4096 .fp8e4m3) (x3 : Vec Ideal S256x1024 .bf16) (x4 : Vec Ideal S256x1024 .i8) (x5 : Vec Ideal S256x1024 .i8) (x6 : Vec Ideal S256x1024 .i8) (x7 : Vec Ideal S32x256 .f32) (x8 : Vec Ideal S32x256 .f32) (x9 : Vec Ideal S32x256 .f32) (xs0 : Vec Ideal S128x2x128 .bf16) (xs1 : Vec Ideal S128x2x128 .bf16) (xs2 : Vec Ideal S128x2x128 .bf16) (xs3 : Vec Ideal S64x2x4096 .bf16) (xs8 : Vec Ideal S256x128 .f32) (xs9 : Vec Ideal S256x128 .f32) (xs10 : Vec Ideal S256x128 .f32) (xs11 : Vec Ideal S256x128 .f32) :
    ∀ p ∈ (kernelRun0_B (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 hc0 hc1 hc2 x0 x1 x2 x3 x4 x5 x6 x7 x8 x9 xs0 xs1 xs2 xs3 xs8 xs9 xs10 xs11).1, ∀ x, p.2 x = KerBlock.G (lamOf x0) (KerBlock.DWof (i 1) x1 x2) (KerBlock.WSBof (i 1) xs0 xs3) x3 x4 (p.1.emb x) := by
  have hl : k0_pay17 (F := Ideal) (View.readAt (Elt Ideal) arg2.view (Rect.unit (s := S3) ![0] S1.size inb_S3_S1_0).toLoadRect (harg2.unread x0) (Shape.Idx.first (by decide))) = lamOf x0 :=
    lam_load arg2 harg2 x0

  have hd0 := dw_load i 0 (by decide) arg3 harg3 arg4 harg4 x1 x2
  have hw0 : ∀ r b : Fin 256, k0_pay23 (F := Ideal) (View.readAt (Elt Ideal) arg21.view (Rect.unit (s := S64x2x4096) (k0_off2 i (0#32)) S64x2x256.size (k0_off2_inb i (0 : Fin 4))).toLoadRect (harg21.unread xs3)) (View.readAt (Elt Ideal) arg18.view (Rect.unit (s := S128x2x128) ![0, 0, 0] S128x2x128.size inb_S128x2x128_S128x2x128_0_0_0).toLoadRect (harg18.unread xs0)) (ix2 r b) = KerBlock.WSBof (i 1) xs0 xs3 r ⟨0 + b.val, by omega⟩ := wsb_load_B i 0 (by decide) arg18 harg18 arg21 harg21 xs0 xs3
  have hd1 := dw_load i 1 (by decide) arg3 harg3 arg4 harg4 x1 x2
  have hw1 : ∀ r b : Fin 256, k0_pay23 (F := Ideal) (View.readAt (Elt Ideal) arg21.view (Rect.unit (s := S64x2x4096) (k0_off2 i (256#32)) S64x2x256.size (k0_off2_inb i (1 : Fin 4))).toLoadRect (harg21.unread xs3)) (View.readAt (Elt Ideal) arg18.view (Rect.unit (s := S128x2x128) ![0, 0, 0] S128x2x128.size inb_S128x2x128_S128x2x128_0_0_0).toLoadRect (harg18.unread xs0)) (ix2 r b) = KerBlock.WSBof (i 1) xs0 xs3 r ⟨256 + b.val, by omega⟩ := wsb_load_B i 1 (by decide) arg18 harg18 arg21 harg21 xs0 xs3
  have hd2 := dw_load i 2 (by decide) arg3 harg3 arg4 harg4 x1 x2
  have hw2 : ∀ r b : Fin 256, k0_pay23 (F := Ideal) (View.readAt (Elt Ideal) arg21.view (Rect.unit (s := S64x2x4096) (k0_off2 i (512#32)) S64x2x256.size (k0_off2_inb i (2 : Fin 4))).toLoadRect (harg21.unread xs3)) (View.readAt (Elt Ideal) arg18.view (Rect.unit (s := S128x2x128) ![0, 0, 0] S128x2x128.size inb_S128x2x128_S128x2x128_0_0_0).toLoadRect (harg18.unread xs0)) (ix2 r b) = KerBlock.WSBof (i 1) xs0 xs3 r ⟨512 + b.val, by omega⟩ := wsb_load_B i 2 (by decide) arg18 harg18 arg21 harg21 xs0 xs3
  have hd3 := dw_load i 3 (by decide) arg3 harg3 arg4 harg4 x1 x2
  have hw3 : ∀ r b : Fin 256, k0_pay23 (F := Ideal) (View.readAt (Elt Ideal) arg21.view (Rect.unit (s := S64x2x4096) (k0_off2 i (768#32)) S64x2x256.size (k0_off2_inb i (3 : Fin 4))).toLoadRect (harg21.unread xs3)) (View.readAt (Elt Ideal) arg18.view (Rect.unit (s := S128x2x128) ![0, 0, 0] S128x2x128.size inb_S128x2x128_S128x2x128_0_0_0).toLoadRect (harg18.unread xs0)) (ix2 r b) = KerBlock.WSBof (i 1) xs0 xs3 r ⟨768 + b.val, by omega⟩ := wsb_load_B i 3 (by decide) arg18 harg18 arg21 harg21 xs0 xs3
  unfold kernelRun0_B
  dsimp only
  iterate 8
    refine List.forall_mem_cons.mpr ⟨fun x => strip_load _ 3 (by decide) (by decide) (by decide) _ hl hd3 hw3 arg5 harg5 arg6 harg6 x3 x4 x, ?_⟩
  iterate 8
    refine List.forall_mem_cons.mpr ⟨fun x => strip_load _ 2 (by decide) (by decide) (by decide) _ hl hd2 hw2 arg5 harg5 arg6 harg6 x3 x4 x, ?_⟩
  iterate 8
    refine List.forall_mem_cons.mpr ⟨fun x => strip_load _ 1 (by decide) (by decide) (by decide) _ hl hd1 hw1 arg5 harg5 arg6 harg6 x3 x4 x, ?_⟩
  iterate 8
    refine List.forall_mem_cons.mpr ⟨fun x => strip_load _ 0 (by decide) (by decide) (by decide) _ hl hd0 hw0 arg5 harg5 arg6 harg6 x3 x4 x, ?_⟩
  exact fun p hp => absurd hp (List.not_mem_nil)

end Cert.KerRun

end
-- ==== Proof.KerRunC.lean ====
/- Hand-written, untrusted: the stores of case C's gradient, each a strip of the block's function. -/
module

public import proofs.«01_k».proof.Proof.KerLoads
public import proofs.«01_k».proof.Proof.Gen.KernelIdeal.Frame.RunC

@[expose] public section

set_option maxRecDepth 100000

noncomputable section

namespace Cert.KerRun

open Cert.KernelIdeal Cert.KernelIdeal.Gen Idealize.ShloMosaic Idealize.ShloMosaic.TcCoe Idealize.ShloMosaic.Tactic

theorem pieces_C  (c : Dev nD) (i : grid0.Coords) (arg2 : Memref sig .tc .smem S3 .f32) (harg2 : arg2.IsWhole) (arg3 : Memref sig .tc .vmem S128x2048 .i32) (harg3 : arg3.IsWhole) (arg4 : Memref sig .tc .vmem S2048x4096 .fp8e4m3) (harg4 : arg4.IsWhole) (arg5 : Memref sig .tc .vmem S256x1024 .bf16) (harg5 : arg5.IsWhole) (arg6 : Memref sig .tc .vmem S256x1024 .i8) (harg6 : arg6.IsWhole) (arg7 : Memref sig .tc .vmem S256x1024 .i8) (harg7 : arg7.IsWhole) (arg8 : Memref sig .tc .vmem S256x1024 .i8) (harg8 : arg8.IsWhole) (arg9 : Memref sig .tc .vmem S32x256 .f32) (harg9 : arg9.IsWhole) (arg10 : Memref sig .tc .vmem S32x256 .f32) (harg10 : arg10.IsWhole) (arg11 : Memref sig .tc .vmem S32x256 .f32) (harg11 : arg11.IsWhole) (arg12 : Memref sig .tc .vmem S256x1024 .f32) (harg12 : arg12.IsWhole) (arg13 : Memref sig .tc .vmem S256x1024 .bf16) (harg13 : arg13.IsWhole) (arg14 : Memref sig .tc .vmem S256x1024 .i8) (harg14 : arg14.IsWhole) (arg15 : Memref sig .tc .vmem S256x1024 .i8) (harg15 : arg15.IsWhole) (arg16 : Memref sig .tc .vmem S32x256 .f32) (harg16 : arg16.IsWhole) (arg17 : Memref sig .tc .vmem S32x256 .f32) (harg17 : arg17.IsWhole) (arg18 : Memref sig .tc .vmem S128x2x128 .bf16) (harg18 : arg18.IsWhole) (arg19 : Memref sig .tc .vmem S128x2x128 .bf16) (harg19 : arg19.IsWhole) (arg20 : Memref sig .tc .vmem S128x2x128 .bf16) (harg20 : arg20.IsWhole) (arg21 : Memref sig .tc .vmem S64x2x4096 .bf16) (harg21 : arg21.IsWhole) (arg22 : Memref sig .tc .vmem S256x1024 .f32) (harg22 : arg22.IsWhole) (arg23 : Memref sig .tc .vmem S256x1024 .f32) (harg23 : arg23.IsWhole) (arg24 : Memref sig .tc .vmem S256x1024 .f32) (harg24 : arg24.IsWhole) (arg25 : Memref sig .tc .vmem S256x1024 .f32) (harg25 : arg25.IsWhole) (arg26 : Memref sig .tc .vmem S256x128 .f32) (harg26 : arg26.IsWhole) (arg27 : Memref sig .tc .vmem S256x128 .f32) (harg27 : arg27.IsWhole) (arg28 : Memref sig .tc .vmem S256x128 .f32) (harg28 : arg28.IsWhole) (arg29 : Memref sig .tc .vmem S256x128 .f32) (harg29 : arg29.IsWhole) (hc0 : ¬cond0_0 i) (hc1 : ¬cond0_1 i) (hc2 : cond0_2 i)
    (x0 : Vec Ideal S3 .f32) (x1 : Vec Ideal S128x2048 .i32) (x2 : Vec Ideal S2048x4096 .fp8e4m3) (x3 : Vec Ideal S256x1024 .bf16) (x4 : Vec Ideal S256x1024 .i8) (x5 : Vec Ideal S256x1024 .i8) (x6 : Vec Ideal S256x1024 .i8) (x7 : Vec Ideal S32x256 .f32) (x8 : Vec Ideal S32x256 .f32) (x9 : Vec Ideal S32x256 .f32) (xs0 : Vec Ideal S128x2x128 .bf16) (xs1 : Vec Ideal S128x2x128 .bf16) (xs2 : Vec Ideal S128x2x128 .bf16) (xs3 : Vec Ideal S64x2x4096 .bf16) (xs8 : Vec Ideal S256x128 .f32) (xs9 : Vec Ideal S256x128 .f32) (xs10 : Vec Ideal S256x128 .f32) (xs11 : Vec Ideal S256x128 .f32) :
    ∀ p ∈ (kernelRun0_C (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 hc0 hc1 hc2 x0 x1 x2 x3 x4 x5 x6 x7 x8 x9 xs0 xs1 xs2 xs3 xs8 xs9 xs10 xs11).1, ∀ x, p.2 x = KerBlock.G (lamOf x0) (KerBlock.DWof (i 1) x1 x2) (KerBlock.WSBof (i 1) xs0 xs3) x3 x4 (p.1.emb x) := by
  have hl : k0_pay17 (F := Ideal) (View.readAt (Elt Ideal) arg2.view (Rect.unit (s := S3) ![0] S1.size inb_S3_S1_0).toLoadRect (harg2.unread x0) (Shape.Idx.first (by decide))) = lamOf x0 :=
    lam_load arg2 harg2 x0

  have hd0 := dw_load i 0 (by decide) arg3 harg3 arg4 harg4 x1 x2
  have hw0 : ∀ r b : Fin 256, k0_pay23 (F := Ideal) (View.readAt (Elt Ideal) arg21.view (Rect.unit (s := S64x2x4096) (k0_off2 i (0#32)) S64x2x256.size (k0_off2_inb i (0 : Fin 4))).toLoadRect (harg21.unread xs3)) (View.readAt (Elt Ideal) arg18.view (Rect.unit (s := S128x2x128) ![0, 0, 0] S128x2x128.size inb_S128x2x128_S128x2x128_0_0_0).toLoadRect (harg18.unread xs0)) (ix2 r b) = KerBlock.WSBof (i 1) xs0 xs3 r ⟨0 + b.val, by omega⟩ := wsb_load_B i 0 (by decide) arg18 harg18 arg21 harg21 xs0 xs3
  have hd1 := dw_load i 1 (by decide) arg3 harg3 arg4 harg4 x1 x2
  have hw1 : ∀ r b : Fin 256, k0_pay23 (F := Ideal) (View.readAt (Elt Ideal) arg21.view (Rect.unit (s := S64x2x4096) (k0_off2 i (256#32)) S64x2x256.size (k0_off2_inb i (1 : Fin 4))).toLoadRect (harg21.unread xs3)) (View.readAt (Elt Ideal) arg18.view (Rect.unit (s := S128x2x128) ![0, 0, 0] S128x2x128.size inb_S128x2x128_S128x2x128_0_0_0).toLoadRect (harg18.unread xs0)) (ix2 r b) = KerBlock.WSBof (i 1) xs0 xs3 r ⟨256 + b.val, by omega⟩ := wsb_load_B i 1 (by decide) arg18 harg18 arg21 harg21 xs0 xs3
  have hd2 := dw_load i 2 (by decide) arg3 harg3 arg4 harg4 x1 x2
  have hw2 : ∀ r b : Fin 256, k0_pay23 (F := Ideal) (View.readAt (Elt Ideal) arg21.view (Rect.unit (s := S64x2x4096) (k0_off2 i (512#32)) S64x2x256.size (k0_off2_inb i (2 : Fin 4))).toLoadRect (harg21.unread xs3)) (View.readAt (Elt Ideal) arg18.view (Rect.unit (s := S128x2x128) ![0, 0, 0] S128x2x128.size inb_S128x2x128_S128x2x128_0_0_0).toLoadRect (harg18.unread xs0)) (ix2 r b) = KerBlock.WSBof (i 1) xs0 xs3 r ⟨512 + b.val, by omega⟩ := wsb_load_B i 2 (by decide) arg18 harg18 arg21 harg21 xs0 xs3
  have hd3 := dw_load i 3 (by decide) arg3 harg3 arg4 harg4 x1 x2
  have hw3 : ∀ r b : Fin 256, k0_pay23 (F := Ideal) (View.readAt (Elt Ideal) arg21.view (Rect.unit (s := S64x2x4096) (k0_off2 i (768#32)) S64x2x256.size (k0_off2_inb i (3 : Fin 4))).toLoadRect (harg21.unread xs3)) (View.readAt (Elt Ideal) arg18.view (Rect.unit (s := S128x2x128) ![0, 0, 0] S128x2x128.size inb_S128x2x128_S128x2x128_0_0_0).toLoadRect (harg18.unread xs0)) (ix2 r b) = KerBlock.WSBof (i 1) xs0 xs3 r ⟨768 + b.val, by omega⟩ := wsb_load_B i 3 (by decide) arg18 harg18 arg21 harg21 xs0 xs3
  unfold kernelRun0_C
  dsimp only
  iterate 8
    refine List.forall_mem_cons.mpr ⟨fun x => strip_load _ 3 (by decide) (by decide) (by decide) _ hl hd3 hw3 arg5 harg5 arg6 harg6 x3 x4 x, ?_⟩
  iterate 8
    refine List.forall_mem_cons.mpr ⟨fun x => strip_load _ 2 (by decide) (by decide) (by decide) _ hl hd2 hw2 arg5 harg5 arg6 harg6 x3 x4 x, ?_⟩
  iterate 8
    refine List.forall_mem_cons.mpr ⟨fun x => strip_load _ 1 (by decide) (by decide) (by decide) _ hl hd1 hw1 arg5 harg5 arg6 harg6 x3 x4 x, ?_⟩
  iterate 8
    refine List.forall_mem_cons.mpr ⟨fun x => strip_load _ 0 (by decide) (by decide) (by decide) _ hl hd0 hw0 arg5 harg5 arg6 harg6 x3 x4 x, ?_⟩
  exact fun p hp => absurd hp (List.not_mem_nil)

end Cert.KerRun

end
-- ==== Proof.KerRunD.lean ====
/- Hand-written, untrusted: the stores of case D's gradient, each a strip of the block's function. -/
module

public import proofs.«01_k».proof.Proof.KerLoads
public import proofs.«01_k».proof.Proof.Gen.KernelIdeal.Frame.RunD

@[expose] public section

set_option maxRecDepth 100000

noncomputable section

namespace Cert.KerRun

open Cert.KernelIdeal Cert.KernelIdeal.Gen Idealize.ShloMosaic Idealize.ShloMosaic.TcCoe Idealize.ShloMosaic.Tactic

theorem pieces_D  (c : Dev nD) (i : grid0.Coords) (arg2 : Memref sig .tc .smem S3 .f32) (harg2 : arg2.IsWhole) (arg3 : Memref sig .tc .vmem S128x2048 .i32) (harg3 : arg3.IsWhole) (arg4 : Memref sig .tc .vmem S2048x4096 .fp8e4m3) (harg4 : arg4.IsWhole) (arg5 : Memref sig .tc .vmem S256x1024 .bf16) (harg5 : arg5.IsWhole) (arg6 : Memref sig .tc .vmem S256x1024 .i8) (harg6 : arg6.IsWhole) (arg7 : Memref sig .tc .vmem S256x1024 .i8) (harg7 : arg7.IsWhole) (arg8 : Memref sig .tc .vmem S256x1024 .i8) (harg8 : arg8.IsWhole) (arg9 : Memref sig .tc .vmem S32x256 .f32) (harg9 : arg9.IsWhole) (arg10 : Memref sig .tc .vmem S32x256 .f32) (harg10 : arg10.IsWhole) (arg11 : Memref sig .tc .vmem S32x256 .f32) (harg11 : arg11.IsWhole) (arg12 : Memref sig .tc .vmem S256x1024 .f32) (harg12 : arg12.IsWhole) (arg13 : Memref sig .tc .vmem S256x1024 .bf16) (harg13 : arg13.IsWhole) (arg14 : Memref sig .tc .vmem S256x1024 .i8) (harg14 : arg14.IsWhole) (arg15 : Memref sig .tc .vmem S256x1024 .i8) (harg15 : arg15.IsWhole) (arg16 : Memref sig .tc .vmem S32x256 .f32) (harg16 : arg16.IsWhole) (arg17 : Memref sig .tc .vmem S32x256 .f32) (harg17 : arg17.IsWhole) (arg18 : Memref sig .tc .vmem S128x2x128 .bf16) (harg18 : arg18.IsWhole) (arg19 : Memref sig .tc .vmem S128x2x128 .bf16) (harg19 : arg19.IsWhole) (arg20 : Memref sig .tc .vmem S128x2x128 .bf16) (harg20 : arg20.IsWhole) (arg21 : Memref sig .tc .vmem S64x2x4096 .bf16) (harg21 : arg21.IsWhole) (arg22 : Memref sig .tc .vmem S256x1024 .f32) (harg22 : arg22.IsWhole) (arg23 : Memref sig .tc .vmem S256x1024 .f32) (harg23 : arg23.IsWhole) (arg24 : Memref sig .tc .vmem S256x1024 .f32) (harg24 : arg24.IsWhole) (arg25 : Memref sig .tc .vmem S256x1024 .f32) (harg25 : arg25.IsWhole) (arg26 : Memref sig .tc .vmem S256x128 .f32) (harg26 : arg26.IsWhole) (arg27 : Memref sig .tc .vmem S256x128 .f32) (harg27 : arg27.IsWhole) (arg28 : Memref sig .tc .vmem S256x128 .f32) (harg28 : arg28.IsWhole) (arg29 : Memref sig .tc .vmem S256x128 .f32) (harg29 : arg29.IsWhole) (hc0 : ¬cond0_0 i) (hc1 : cond0_1 i) (hc2 : ¬cond0_2 i)
    (x0 : Vec Ideal S3 .f32) (x1 : Vec Ideal S128x2048 .i32) (x2 : Vec Ideal S2048x4096 .fp8e4m3) (x3 : Vec Ideal S256x1024 .bf16) (x4 : Vec Ideal S256x1024 .i8) (x5 : Vec Ideal S256x1024 .i8) (x6 : Vec Ideal S256x1024 .i8) (x7 : Vec Ideal S32x256 .f32) (x8 : Vec Ideal S32x256 .f32) (x9 : Vec Ideal S32x256 .f32) (xs3 : Vec Ideal S64x2x4096 .bf16) (xs8 : Vec Ideal S256x128 .f32) (xs9 : Vec Ideal S256x128 .f32) (xs10 : Vec Ideal S256x128 .f32) (xs11 : Vec Ideal S256x128 .f32) :
    ∀ p ∈ (kernelRun0_D (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 hc0 hc1 hc2 x0 x1 x2 x3 x4 x5 x6 x7 x8 x9 xs3 xs8 xs9 xs10 xs11).1, ∀ x, p.2 x = KerBlock.G (lamOf x0) (KerBlock.DWof (i 1) x1 x2) (KerBlock.WSBof (i 1) (k0_pay10 (F := Ideal) x7) xs3) x3 x4 (p.1.emb x) := by
  have hl : k0_pay17 (F := Ideal) (View.readAt (Elt Ideal) arg2.view (Rect.unit (s := S3) ![0] S1.size inb_S3_S1_0).toLoadRect (harg2.unread x0) (Shape.Idx.first (by decide))) = lamOf x0 :=
    lam_load arg2 harg2 x0

  have hd0 := dw_load i 0 (by decide) arg3 harg3 arg4 harg4 x1 x2
  have hw0 : ∀ r b : Fin 256, k0_pay23 (F := Ideal) (View.readAt (Elt Ideal) arg21.view (Rect.unit (s := S64x2x4096) (k0_off2 i (0#32)) S64x2x256.size (k0_off2_inb i (0 : Fin 4))).toLoadRect (harg21.unread xs3)) (arg18.view.readCov [⟨Rect.unit (s := S128x2x128) ![0, 0, 0] S128x2x128.size inb_S128x2x128_S128x2x128_0_0_0, k0_pay10 (F := Ideal) (View.readAt (Elt Ideal) arg9.view (Rect.unit (s := S32x256) ![0, 0] S32x256.size inb_S32x256_S32x256_0_0).toLoadRect (harg9.unread x7))⟩] (Rect.unit (s := S128x2x128) ![0, 0, 0] S128x2x128.size inb_S128x2x128_S128x2x128_0_0_0).toLoadRect) (ix2 r b) = KerBlock.WSBof (i 1) (k0_pay10 (F := Ideal) x7) xs3 r ⟨0 + b.val, by omega⟩ := wsb_load_D i 0 (by decide) arg9 harg9 arg18 arg21 harg21 x7 xs3
  have hd1 := dw_load i 1 (by decide) arg3 harg3 arg4 harg4 x1 x2
  have hw1 : ∀ r b : Fin 256, k0_pay23 (F := Ideal) (View.readAt (Elt Ideal) arg21.view (Rect.unit (s := S64x2x4096) (k0_off2 i (256#32)) S64x2x256.size (k0_off2_inb i (1 : Fin 4))).toLoadRect (harg21.unread xs3)) (arg18.view.readCov [⟨Rect.unit (s := S128x2x128) ![0, 0, 0] S128x2x128.size inb_S128x2x128_S128x2x128_0_0_0, k0_pay10 (F := Ideal) (View.readAt (Elt Ideal) arg9.view (Rect.unit (s := S32x256) ![0, 0] S32x256.size inb_S32x256_S32x256_0_0).toLoadRect (harg9.unread x7))⟩] (Rect.unit (s := S128x2x128) ![0, 0, 0] S128x2x128.size inb_S128x2x128_S128x2x128_0_0_0).toLoadRect) (ix2 r b) = KerBlock.WSBof (i 1) (k0_pay10 (F := Ideal) x7) xs3 r ⟨256 + b.val, by omega⟩ := wsb_load_D i 1 (by decide) arg9 harg9 arg18 arg21 harg21 x7 xs3
  have hd2 := dw_load i 2 (by decide) arg3 harg3 arg4 harg4 x1 x2
  have hw2 : ∀ r b : Fin 256, k0_pay23 (F := Ideal) (View.readAt (Elt Ideal) arg21.view (Rect.unit (s := S64x2x4096) (k0_off2 i (512#32)) S64x2x256.size (k0_off2_inb i (2 : Fin 4))).toLoadRect (harg21.unread xs3)) (arg18.view.readCov [⟨Rect.unit (s := S128x2x128) ![0, 0, 0] S128x2x128.size inb_S128x2x128_S128x2x128_0_0_0, k0_pay10 (F := Ideal) (View.readAt (Elt Ideal) arg9.view (Rect.unit (s := S32x256) ![0, 0] S32x256.size inb_S32x256_S32x256_0_0).toLoadRect (harg9.unread x7))⟩] (Rect.unit (s := S128x2x128) ![0, 0, 0] S128x2x128.size inb_S128x2x128_S128x2x128_0_0_0).toLoadRect) (ix2 r b) = KerBlock.WSBof (i 1) (k0_pay10 (F := Ideal) x7) xs3 r ⟨512 + b.val, by omega⟩ := wsb_load_D i 2 (by decide) arg9 harg9 arg18 arg21 harg21 x7 xs3
  have hd3 := dw_load i 3 (by decide) arg3 harg3 arg4 harg4 x1 x2
  have hw3 : ∀ r b : Fin 256, k0_pay23 (F := Ideal) (View.readAt (Elt Ideal) arg21.view (Rect.unit (s := S64x2x4096) (k0_off2 i (768#32)) S64x2x256.size (k0_off2_inb i (3 : Fin 4))).toLoadRect (harg21.unread xs3)) (arg18.view.readCov [⟨Rect.unit (s := S128x2x128) ![0, 0, 0] S128x2x128.size inb_S128x2x128_S128x2x128_0_0_0, k0_pay10 (F := Ideal) (View.readAt (Elt Ideal) arg9.view (Rect.unit (s := S32x256) ![0, 0] S32x256.size inb_S32x256_S32x256_0_0).toLoadRect (harg9.unread x7))⟩] (Rect.unit (s := S128x2x128) ![0, 0, 0] S128x2x128.size inb_S128x2x128_S128x2x128_0_0_0).toLoadRect) (ix2 r b) = KerBlock.WSBof (i 1) (k0_pay10 (F := Ideal) x7) xs3 r ⟨768 + b.val, by omega⟩ := wsb_load_D i 3 (by decide) arg9 harg9 arg18 arg21 harg21 x7 xs3
  unfold kernelRun0_D
  dsimp only
  iterate 8
    refine List.forall_mem_cons.mpr ⟨fun x => strip_load _ 3 (by decide) (by decide) (by decide) _ hl hd3 hw3 arg5 harg5 arg6 harg6 x3 x4 x, ?_⟩
  iterate 8
    refine List.forall_mem_cons.mpr ⟨fun x => strip_load _ 2 (by decide) (by decide) (by decide) _ hl hd2 hw2 arg5 harg5 arg6 harg6 x3 x4 x, ?_⟩
  iterate 8
    refine List.forall_mem_cons.mpr ⟨fun x => strip_load _ 1 (by decide) (by decide) (by decide) _ hl hd1 hw1 arg5 harg5 arg6 harg6 x3 x4 x, ?_⟩
  iterate 8
    refine List.forall_mem_cons.mpr ⟨fun x => strip_load _ 0 (by decide) (by decide) (by decide) _ hl hd0 hw0 arg5 harg5 arg6 harg6 x3 x4 x, ?_⟩
  exact fun p hp => absurd hp (List.not_mem_nil)

theorem tabs_D  (c : Dev nD) (i : grid0.Coords) (arg2 : Memref sig .tc .smem S3 .f32) (harg2 : arg2.IsWhole) (arg3 : Memref sig .tc .vmem S128x2048 .i32) (harg3 : arg3.IsWhole) (arg4 : Memref sig .tc .vmem S2048x4096 .fp8e4m3) (harg4 : arg4.IsWhole) (arg5 : Memref sig .tc .vmem S256x1024 .bf16) (harg5 : arg5.IsWhole) (arg6 : Memref sig .tc .vmem S256x1024 .i8) (harg6 : arg6.IsWhole) (arg7 : Memref sig .tc .vmem S256x1024 .i8) (harg7 : arg7.IsWhole) (arg8 : Memref sig .tc .vmem S256x1024 .i8) (harg8 : arg8.IsWhole) (arg9 : Memref sig .tc .vmem S32x256 .f32) (harg9 : arg9.IsWhole) (arg10 : Memref sig .tc .vmem S32x256 .f32) (harg10 : arg10.IsWhole) (arg11 : Memref sig .tc .vmem S32x256 .f32) (harg11 : arg11.IsWhole) (arg12 : Memref sig .tc .vmem S256x1024 .f32) (harg12 : arg12.IsWhole) (arg13 : Memref sig .tc .vmem S256x1024 .bf16) (harg13 : arg13.IsWhole) (arg14 : Memref sig .tc .vmem S256x1024 .i8) (harg14 : arg14.IsWhole) (arg15 : Memref sig .tc .vmem S256x1024 .i8) (harg15 : arg15.IsWhole) (arg16 : Memref sig .tc .vmem S32x256 .f32) (harg16 : arg16.IsWhole) (arg17 : Memref sig .tc .vmem S32x256 .f32) (harg17 : arg17.IsWhole) (arg18 : Memref sig .tc .vmem S128x2x128 .bf16) (harg18 : arg18.IsWhole) (arg19 : Memref sig .tc .vmem S128x2x128 .bf16) (harg19 : arg19.IsWhole) (arg20 : Memref sig .tc .vmem S128x2x128 .bf16) (harg20 : arg20.IsWhole) (arg21 : Memref sig .tc .vmem S64x2x4096 .bf16) (harg21 : arg21.IsWhole) (arg22 : Memref sig .tc .vmem S256x1024 .f32) (harg22 : arg22.IsWhole) (arg23 : Memref sig .tc .vmem S256x1024 .f32) (harg23 : arg23.IsWhole) (arg24 : Memref sig .tc .vmem S256x1024 .f32) (harg24 : arg24.IsWhole) (arg25 : Memref sig .tc .vmem S256x1024 .f32) (harg25 : arg25.IsWhole) (arg26 : Memref sig .tc .vmem S256x128 .f32) (harg26 : arg26.IsWhole) (arg27 : Memref sig .tc .vmem S256x128 .f32) (harg27 : arg27.IsWhole) (arg28 : Memref sig .tc .vmem S256x128 .f32) (harg28 : arg28.IsWhole) (arg29 : Memref sig .tc .vmem S256x128 .f32) (harg29 : arg29.IsWhole) (hc0 : ¬cond0_0 i) (hc1 : cond0_1 i) (hc2 : ¬cond0_2 i)
    (x0 : Vec Ideal S3 .f32) (x1 : Vec Ideal S128x2048 .i32) (x2 : Vec Ideal S2048x4096 .fp8e4m3) (x3 : Vec Ideal S256x1024 .bf16) (x4 : Vec Ideal S256x1024 .i8) (x5 : Vec Ideal S256x1024 .i8) (x6 : Vec Ideal S256x1024 .i8) (x7 : Vec Ideal S32x256 .f32) (x8 : Vec Ideal S32x256 .f32) (x9 : Vec Ideal S32x256 .f32) (xs3 : Vec Ideal S64x2x4096 .bf16) (xs8 : Vec Ideal S256x128 .f32) (xs9 : Vec Ideal S256x128 .f32) (xs10 : Vec Ideal S256x128 .f32) (xs11 : Vec Ideal S256x128 .f32) :
    View.canon (kernelRun0_D (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 hc0 hc1 hc2 x0 x1 x2 x3 x4 x5 x6 x7 x8 x9 xs3 xs8 xs9 xs10 xs11).2.2.2.2.2.2.1 = k0_pay10 (F := Ideal) x7 := by
  have h : (kernelRun0_D (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 hc0 hc1 hc2 x0 x1 x2 x3 x4 x5 x6 x7 x8 x9 xs3 xs8 xs9 xs10 xs11).2.2.2.2.2.2.1 = [⟨Rect.unit (s := S128x2x128) ![0, 0, 0] S128x2x128.size inb_S128x2x128_S128x2x128_0_0_0,
      k0_pay10 (F := Ideal) (View.readAt (Elt Ideal) arg9.view (Rect.unit (s := S32x256) ![0, 0] S32x256.size inb_S32x256_S32x256_0_0).toLoadRect (harg9.unread x7))⟩] := rfl
  rw [h, View.readAt_eq_ld, harg9.read_unread, View.ld_unit_zero hz2]
  exact View.canon_unit_zero (Val := Elt Ideal) hz3 inb_S128x2x128_S128x2x128_0_0_0 (k0_pay10 (F := Ideal) x7)

end Cert.KerRun

end
-- ==== Proof.KerPts.lean ====
/- Hand-written, untrusted: what each point leaves behind of the gradient, the first table and the spreader, by induction over
   the points. -/
module

public import proofs.«01_k».proof.Proof.KerWin
public import proofs.«01_k».proof.Proof.KerRunA
public import proofs.«01_k».proof.Proof.KerRunB
public import proofs.«01_k».proof.Proof.KerRunC
public import proofs.«01_k».proof.Proof.KerRunD
public import proofs.«01_k».proof.Proof.Gen.KernelIdeal.Frame

@[expose] public section

noncomputable section

namespace Cert.KerPts

open Cert.KernelIdeal Cert.KernelIdeal.Gen Cert.KerRun Cert.KerWin Idealize.ShloMosaic Idealize.ShloMosaic.TcCoe Idealize.SL.Sem

theorem out_A  (c : Dev nD) (i : grid0.Coords) (arg2 : Memref sig .tc .smem S3 .f32) (harg2 : arg2.IsWhole) (arg3 : Memref sig .tc .vmem S128x2048 .i32) (harg3 : arg3.IsWhole) (arg4 : Memref sig .tc .vmem S2048x4096 .fp8e4m3) (harg4 : arg4.IsWhole) (arg5 : Memref sig .tc .vmem S256x1024 .bf16) (harg5 : arg5.IsWhole) (arg6 : Memref sig .tc .vmem S256x1024 .i8) (harg6 : arg6.IsWhole) (arg7 : Memref sig .tc .vmem S256x1024 .i8) (harg7 : arg7.IsWhole) (arg8 : Memref sig .tc .vmem S256x1024 .i8) (harg8 : arg8.IsWhole) (arg9 : Memref sig .tc .vmem S32x256 .f32) (harg9 : arg9.IsWhole) (arg10 : Memref sig .tc .vmem S32x256 .f32) (harg10 : arg10.IsWhole) (arg11 : Memref sig .tc .vmem S32x256 .f32) (harg11 : arg11.IsWhole) (arg12 : Memref sig .tc .vmem S256x1024 .f32) (harg12 : arg12.IsWhole) (arg13 : Memref sig .tc .vmem S256x1024 .bf16) (harg13 : arg13.IsWhole) (arg14 : Memref sig .tc .vmem S256x1024 .i8) (harg14 : arg14.IsWhole) (arg15 : Memref sig .tc .vmem S256x1024 .i8) (harg15 : arg15.IsWhole) (arg16 : Memref sig .tc .vmem S32x256 .f32) (harg16 : arg16.IsWhole) (arg17 : Memref sig .tc .vmem S32x256 .f32) (harg17 : arg17.IsWhole) (arg18 : Memref sig .tc .vmem S128x2x128 .bf16) (harg18 : arg18.IsWhole) (arg19 : Memref sig .tc .vmem S128x2x128 .bf16) (harg19 : arg19.IsWhole) (arg20 : Memref sig .tc .vmem S128x2x128 .bf16) (harg20 : arg20.IsWhole) (arg21 : Memref sig .tc .vmem S64x2x4096 .bf16) (harg21 : arg21.IsWhole) (arg22 : Memref sig .tc .vmem S256x1024 .f32) (harg22 : arg22.IsWhole) (arg23 : Memref sig .tc .vmem S256x1024 .f32) (harg23 : arg23.IsWhole) (arg24 : Memref sig .tc .vmem S256x1024 .f32) (harg24 : arg24.IsWhole) (arg25 : Memref sig .tc .vmem S256x1024 .f32) (harg25 : arg25.IsWhole) (arg26 : Memref sig .tc .vmem S256x128 .f32) (harg26 : arg26.IsWhole) (arg27 : Memref sig .tc .vmem S256x128 .f32) (harg27 : arg27.IsWhole) (arg28 : Memref sig .tc .vmem S256x128 .f32) (harg28 : arg28.IsWhole) (arg29 : Memref sig .tc .vmem S256x128 .f32) (harg29 : arg29.IsWhole) (hc0 : cond0_0 i) (hc1 : cond0_1 i) (hc2 : ¬cond0_2 i)
    (x0 : Vec Ideal S3 .f32) (x1 : Vec Ideal S128x2048 .i32) (x2 : Vec Ideal S2048x4096 .fp8e4m3) (x3 : Vec Ideal S256x1024 .bf16) (x4 : Vec Ideal S256x1024 .i8) (x5 : Vec Ideal S256x1024 .i8) (x6 : Vec Ideal S256x1024 .i8) (x7 : Vec Ideal S32x256 .f32) (x8 : Vec Ideal S32x256 .f32) (x9 : Vec Ideal S32x256 .f32) :
    out0_A_10 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 hc0 hc1 hc2 x0 x1 x2 x3 x4 x5 x6 x7 x8 x9 = KerBlock.G (lamOf x0) (KerBlock.DWof (i 1) x1 x2) (KerBlock.WSBof (i 1) (k0_pay10 (F := Ideal) x7) (k0_pay6 (F := Ideal))) x3 x4 := by
  unfold out0_A_10
  rw [View.read_writes_junk_eq_canon]
  exact funext fun y => View.canon_apply_of_pieces _ _ (pieces_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 hc0 hc1 hc2 x0 x1 x2 x3 x4 x5 x6 x7 x8 x9) y (cover0_A_10 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 hc0 hc1 hc2 x0 x1 x2 x3 x4 x5 x6 x7 x8 x9 y)

theorem sout_A_0  (c : Dev nD) (i : grid0.Coords) (arg2 : Memref sig .tc .smem S3 .f32) (harg2 : arg2.IsWhole) (arg3 : Memref sig .tc .vmem S128x2048 .i32) (harg3 : arg3.IsWhole) (arg4 : Memref sig .tc .vmem S2048x4096 .fp8e4m3) (harg4 : arg4.IsWhole) (arg5 : Memref sig .tc .vmem S256x1024 .bf16) (harg5 : arg5.IsWhole) (arg6 : Memref sig .tc .vmem S256x1024 .i8) (harg6 : arg6.IsWhole) (arg7 : Memref sig .tc .vmem S256x1024 .i8) (harg7 : arg7.IsWhole) (arg8 : Memref sig .tc .vmem S256x1024 .i8) (harg8 : arg8.IsWhole) (arg9 : Memref sig .tc .vmem S32x256 .f32) (harg9 : arg9.IsWhole) (arg10 : Memref sig .tc .vmem S32x256 .f32) (harg10 : arg10.IsWhole) (arg11 : Memref sig .tc .vmem S32x256 .f32) (harg11 : arg11.IsWhole) (arg12 : Memref sig .tc .vmem S256x1024 .f32) (harg12 : arg12.IsWhole) (arg13 : Memref sig .tc .vmem S256x1024 .bf16) (harg13 : arg13.IsWhole) (arg14 : Memref sig .tc .vmem S256x1024 .i8) (harg14 : arg14.IsWhole) (arg15 : Memref sig .tc .vmem S256x1024 .i8) (harg15 : arg15.IsWhole) (arg16 : Memref sig .tc .vmem S32x256 .f32) (harg16 : arg16.IsWhole) (arg17 : Memref sig .tc .vmem S32x256 .f32) (harg17 : arg17.IsWhole) (arg18 : Memref sig .tc .vmem S128x2x128 .bf16) (harg18 : arg18.IsWhole) (arg19 : Memref sig .tc .vmem S128x2x128 .bf16) (harg19 : arg19.IsWhole) (arg20 : Memref sig .tc .vmem S128x2x128 .bf16) (harg20 : arg20.IsWhole) (arg21 : Memref sig .tc .vmem S64x2x4096 .bf16) (harg21 : arg21.IsWhole) (arg22 : Memref sig .tc .vmem S256x1024 .f32) (harg22 : arg22.IsWhole) (arg23 : Memref sig .tc .vmem S256x1024 .f32) (harg23 : arg23.IsWhole) (arg24 : Memref sig .tc .vmem S256x1024 .f32) (harg24 : arg24.IsWhole) (arg25 : Memref sig .tc .vmem S256x1024 .f32) (harg25 : arg25.IsWhole) (arg26 : Memref sig .tc .vmem S256x128 .f32) (harg26 : arg26.IsWhole) (arg27 : Memref sig .tc .vmem S256x128 .f32) (harg27 : arg27.IsWhole) (arg28 : Memref sig .tc .vmem S256x128 .f32) (harg28 : arg28.IsWhole) (arg29 : Memref sig .tc .vmem S256x128 .f32) (harg29 : arg29.IsWhole) (hc0 : cond0_0 i) (hc1 : cond0_1 i) (hc2 : ¬cond0_2 i)
    (x0 : Vec Ideal S3 .f32) (x1 : Vec Ideal S128x2048 .i32) (x2 : Vec Ideal S2048x4096 .fp8e4m3) (x3 : Vec Ideal S256x1024 .bf16) (x4 : Vec Ideal S256x1024 .i8) (x5 : Vec Ideal S256x1024 .i8) (x6 : Vec Ideal S256x1024 .i8) (x7 : Vec Ideal S32x256 .f32) (x8 : Vec Ideal S32x256 .f32) (x9 : Vec Ideal S32x256 .f32) : sout0_A_0 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 hc0 hc1 hc2 x0 x1 x2 x3 x4 x5 x6 x7 x8 x9 = k0_pay10 (F := Ideal) x7 := by
  unfold sout0_A_0
  rw [View.read_writes_junk_eq_canon]
  exact tabs_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 hc0 hc1 hc2 x0 x1 x2 x3 x4 x5 x6 x7 x8 x9

theorem sout_A_3  (c : Dev nD) (i : grid0.Coords) (arg2 : Memref sig .tc .smem S3 .f32) (harg2 : arg2.IsWhole) (arg3 : Memref sig .tc .vmem S128x2048 .i32) (harg3 : arg3.IsWhole) (arg4 : Memref sig .tc .vmem S2048x4096 .fp8e4m3) (harg4 : arg4.IsWhole) (arg5 : Memref sig .tc .vmem S256x1024 .bf16) (harg5 : arg5.IsWhole) (arg6 : Memref sig .tc .vmem S256x1024 .i8) (harg6 : arg6.IsWhole) (arg7 : Memref sig .tc .vmem S256x1024 .i8) (harg7 : arg7.IsWhole) (arg8 : Memref sig .tc .vmem S256x1024 .i8) (harg8 : arg8.IsWhole) (arg9 : Memref sig .tc .vmem S32x256 .f32) (harg9 : arg9.IsWhole) (arg10 : Memref sig .tc .vmem S32x256 .f32) (harg10 : arg10.IsWhole) (arg11 : Memref sig .tc .vmem S32x256 .f32) (harg11 : arg11.IsWhole) (arg12 : Memref sig .tc .vmem S256x1024 .f32) (harg12 : arg12.IsWhole) (arg13 : Memref sig .tc .vmem S256x1024 .bf16) (harg13 : arg13.IsWhole) (arg14 : Memref sig .tc .vmem S256x1024 .i8) (harg14 : arg14.IsWhole) (arg15 : Memref sig .tc .vmem S256x1024 .i8) (harg15 : arg15.IsWhole) (arg16 : Memref sig .tc .vmem S32x256 .f32) (harg16 : arg16.IsWhole) (arg17 : Memref sig .tc .vmem S32x256 .f32) (harg17 : arg17.IsWhole) (arg18 : Memref sig .tc .vmem S128x2x128 .bf16) (harg18 : arg18.IsWhole) (arg19 : Memref sig .tc .vmem S128x2x128 .bf16) (harg19 : arg19.IsWhole) (arg20 : Memref sig .tc .vmem S128x2x128 .bf16) (harg20 : arg20.IsWhole) (arg21 : Memref sig .tc .vmem S64x2x4096 .bf16) (harg21 : arg21.IsWhole) (arg22 : Memref sig .tc .vmem S256x1024 .f32) (harg22 : arg22.IsWhole) (arg23 : Memref sig .tc .vmem S256x1024 .f32) (harg23 : arg23.IsWhole) (arg24 : Memref sig .tc .vmem S256x1024 .f32) (harg24 : arg24.IsWhole) (arg25 : Memref sig .tc .vmem S256x1024 .f32) (harg25 : arg25.IsWhole) (arg26 : Memref sig .tc .vmem S256x128 .f32) (harg26 : arg26.IsWhole) (arg27 : Memref sig .tc .vmem S256x128 .f32) (harg27 : arg27.IsWhole) (arg28 : Memref sig .tc .vmem S256x128 .f32) (harg28 : arg28.IsWhole) (arg29 : Memref sig .tc .vmem S256x128 .f32) (harg29 : arg29.IsWhole) (hc0 : cond0_0 i) (hc1 : cond0_1 i) (hc2 : ¬cond0_2 i)
    (x0 : Vec Ideal S3 .f32) (x1 : Vec Ideal S128x2048 .i32) (x2 : Vec Ideal S2048x4096 .fp8e4m3) (x3 : Vec Ideal S256x1024 .bf16) (x4 : Vec Ideal S256x1024 .i8) (x5 : Vec Ideal S256x1024 .i8) (x6 : Vec Ideal S256x1024 .i8) (x7 : Vec Ideal S32x256 .f32) (x8 : Vec Ideal S32x256 .f32) (x9 : Vec Ideal S32x256 .f32) : sout0_A_3 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 hc0 hc1 hc2 x0 x1 x2 x3 x4 x5 x6 x7 x8 x9 = k0_pay6 (F := Ideal) := by
  unfold sout0_A_3
  rw [View.read_writes_junk_eq_canon]
  exact spread_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 hc0 hc1 hc2 x0 x1 x2 x3 x4 x5 x6 x7 x8 x9

theorem out_B  (c : Dev nD) (i : grid0.Coords) (arg2 : Memref sig .tc .smem S3 .f32) (harg2 : arg2.IsWhole) (arg3 : Memref sig .tc .vmem S128x2048 .i32) (harg3 : arg3.IsWhole) (arg4 : Memref sig .tc .vmem S2048x4096 .fp8e4m3) (harg4 : arg4.IsWhole) (arg5 : Memref sig .tc .vmem S256x1024 .bf16) (harg5 : arg5.IsWhole) (arg6 : Memref sig .tc .vmem S256x1024 .i8) (harg6 : arg6.IsWhole) (arg7 : Memref sig .tc .vmem S256x1024 .i8) (harg7 : arg7.IsWhole) (arg8 : Memref sig .tc .vmem S256x1024 .i8) (harg8 : arg8.IsWhole) (arg9 : Memref sig .tc .vmem S32x256 .f32) (harg9 : arg9.IsWhole) (arg10 : Memref sig .tc .vmem S32x256 .f32) (harg10 : arg10.IsWhole) (arg11 : Memref sig .tc .vmem S32x256 .f32) (harg11 : arg11.IsWhole) (arg12 : Memref sig .tc .vmem S256x1024 .f32) (harg12 : arg12.IsWhole) (arg13 : Memref sig .tc .vmem S256x1024 .bf16) (harg13 : arg13.IsWhole) (arg14 : Memref sig .tc .vmem S256x1024 .i8) (harg14 : arg14.IsWhole) (arg15 : Memref sig .tc .vmem S256x1024 .i8) (harg15 : arg15.IsWhole) (arg16 : Memref sig .tc .vmem S32x256 .f32) (harg16 : arg16.IsWhole) (arg17 : Memref sig .tc .vmem S32x256 .f32) (harg17 : arg17.IsWhole) (arg18 : Memref sig .tc .vmem S128x2x128 .bf16) (harg18 : arg18.IsWhole) (arg19 : Memref sig .tc .vmem S128x2x128 .bf16) (harg19 : arg19.IsWhole) (arg20 : Memref sig .tc .vmem S128x2x128 .bf16) (harg20 : arg20.IsWhole) (arg21 : Memref sig .tc .vmem S64x2x4096 .bf16) (harg21 : arg21.IsWhole) (arg22 : Memref sig .tc .vmem S256x1024 .f32) (harg22 : arg22.IsWhole) (arg23 : Memref sig .tc .vmem S256x1024 .f32) (harg23 : arg23.IsWhole) (arg24 : Memref sig .tc .vmem S256x1024 .f32) (harg24 : arg24.IsWhole) (arg25 : Memref sig .tc .vmem S256x1024 .f32) (harg25 : arg25.IsWhole) (arg26 : Memref sig .tc .vmem S256x128 .f32) (harg26 : arg26.IsWhole) (arg27 : Memref sig .tc .vmem S256x128 .f32) (harg27 : arg27.IsWhole) (arg28 : Memref sig .tc .vmem S256x128 .f32) (harg28 : arg28.IsWhole) (arg29 : Memref sig .tc .vmem S256x128 .f32) (harg29 : arg29.IsWhole) (hc0 : ¬cond0_0 i) (hc1 : ¬cond0_1 i) (hc2 : ¬cond0_2 i)
    (x0 : Vec Ideal S3 .f32) (x1 : Vec Ideal S128x2048 .i32) (x2 : Vec Ideal S2048x4096 .fp8e4m3) (x3 : Vec Ideal S256x1024 .bf16) (x4 : Vec Ideal S256x1024 .i8) (x5 : Vec Ideal S256x1024 .i8) (x6 : Vec Ideal S256x1024 .i8) (x7 : Vec Ideal S32x256 .f32) (x8 : Vec Ideal S32x256 .f32) (x9 : Vec Ideal S32x256 .f32) (xs0 : Vec Ideal S128x2x128 .bf16) (xs1 : Vec Ideal S128x2x128 .bf16) (xs2 : Vec Ideal S128x2x128 .bf16) (xs3 : Vec Ideal S64x2x4096 .bf16) (xs8 : Vec Ideal S256x128 .f32) (xs9 : Vec Ideal S256x128 .f32) (xs10 : Vec Ideal S256x128 .f32) (xs11 : Vec Ideal S256x128 .f32) :
    out0_B_10 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 hc0 hc1 hc2 x0 x1 x2 x3 x4 x5 x6 x7 x8 x9 xs0 xs1 xs2 xs3 xs8 xs9 xs10 xs11 = KerBlock.G (lamOf x0) (KerBlock.DWof (i 1) x1 x2) (KerBlock.WSBof (i 1) xs0 xs3) x3 x4 := by
  unfold out0_B_10
  rw [View.read_writes_junk_eq_canon]
  exact funext fun y => View.canon_apply_of_pieces _ _ (pieces_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 hc0 hc1 hc2 x0 x1 x2 x3 x4 x5 x6 x7 x8 x9 xs0 xs1 xs2 xs3 xs8 xs9 xs10 xs11) y (cover0_B_10 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 hc0 hc1 hc2 x0 x1 x2 x3 x4 x5 x6 x7 x8 x9 xs0 xs1 xs2 xs3 xs8 xs9 xs10 xs11 y)

theorem out_C  (c : Dev nD) (i : grid0.Coords) (arg2 : Memref sig .tc .smem S3 .f32) (harg2 : arg2.IsWhole) (arg3 : Memref sig .tc .vmem S128x2048 .i32) (harg3 : arg3.IsWhole) (arg4 : Memref sig .tc .vmem S2048x4096 .fp8e4m3) (harg4 : arg4.IsWhole) (arg5 : Memref sig .tc .vmem S256x1024 .bf16) (harg5 : arg5.IsWhole) (arg6 : Memref sig .tc .vmem S256x1024 .i8) (harg6 : arg6.IsWhole) (arg7 : Memref sig .tc .vmem S256x1024 .i8) (harg7 : arg7.IsWhole) (arg8 : Memref sig .tc .vmem S256x1024 .i8) (harg8 : arg8.IsWhole) (arg9 : Memref sig .tc .vmem S32x256 .f32) (harg9 : arg9.IsWhole) (arg10 : Memref sig .tc .vmem S32x256 .f32) (harg10 : arg10.IsWhole) (arg11 : Memref sig .tc .vmem S32x256 .f32) (harg11 : arg11.IsWhole) (arg12 : Memref sig .tc .vmem S256x1024 .f32) (harg12 : arg12.IsWhole) (arg13 : Memref sig .tc .vmem S256x1024 .bf16) (harg13 : arg13.IsWhole) (arg14 : Memref sig .tc .vmem S256x1024 .i8) (harg14 : arg14.IsWhole) (arg15 : Memref sig .tc .vmem S256x1024 .i8) (harg15 : arg15.IsWhole) (arg16 : Memref sig .tc .vmem S32x256 .f32) (harg16 : arg16.IsWhole) (arg17 : Memref sig .tc .vmem S32x256 .f32) (harg17 : arg17.IsWhole) (arg18 : Memref sig .tc .vmem S128x2x128 .bf16) (harg18 : arg18.IsWhole) (arg19 : Memref sig .tc .vmem S128x2x128 .bf16) (harg19 : arg19.IsWhole) (arg20 : Memref sig .tc .vmem S128x2x128 .bf16) (harg20 : arg20.IsWhole) (arg21 : Memref sig .tc .vmem S64x2x4096 .bf16) (harg21 : arg21.IsWhole) (arg22 : Memref sig .tc .vmem S256x1024 .f32) (harg22 : arg22.IsWhole) (arg23 : Memref sig .tc .vmem S256x1024 .f32) (harg23 : arg23.IsWhole) (arg24 : Memref sig .tc .vmem S256x1024 .f32) (harg24 : arg24.IsWhole) (arg25 : Memref sig .tc .vmem S256x1024 .f32) (harg25 : arg25.IsWhole) (arg26 : Memref sig .tc .vmem S256x128 .f32) (harg26 : arg26.IsWhole) (arg27 : Memref sig .tc .vmem S256x128 .f32) (harg27 : arg27.IsWhole) (arg28 : Memref sig .tc .vmem S256x128 .f32) (harg28 : arg28.IsWhole) (arg29 : Memref sig .tc .vmem S256x128 .f32) (harg29 : arg29.IsWhole) (hc0 : ¬cond0_0 i) (hc1 : ¬cond0_1 i) (hc2 : cond0_2 i)
    (x0 : Vec Ideal S3 .f32) (x1 : Vec Ideal S128x2048 .i32) (x2 : Vec Ideal S2048x4096 .fp8e4m3) (x3 : Vec Ideal S256x1024 .bf16) (x4 : Vec Ideal S256x1024 .i8) (x5 : Vec Ideal S256x1024 .i8) (x6 : Vec Ideal S256x1024 .i8) (x7 : Vec Ideal S32x256 .f32) (x8 : Vec Ideal S32x256 .f32) (x9 : Vec Ideal S32x256 .f32) (xs0 : Vec Ideal S128x2x128 .bf16) (xs1 : Vec Ideal S128x2x128 .bf16) (xs2 : Vec Ideal S128x2x128 .bf16) (xs3 : Vec Ideal S64x2x4096 .bf16) (xs8 : Vec Ideal S256x128 .f32) (xs9 : Vec Ideal S256x128 .f32) (xs10 : Vec Ideal S256x128 .f32) (xs11 : Vec Ideal S256x128 .f32) :
    out0_C_10 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 hc0 hc1 hc2 x0 x1 x2 x3 x4 x5 x6 x7 x8 x9 xs0 xs1 xs2 xs3 xs8 xs9 xs10 xs11 = KerBlock.G (lamOf x0) (KerBlock.DWof (i 1) x1 x2) (KerBlock.WSBof (i 1) xs0 xs3) x3 x4 := by
  unfold out0_C_10
  rw [View.read_writes_junk_eq_canon]
  exact funext fun y => View.canon_apply_of_pieces _ _ (pieces_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 hc0 hc1 hc2 x0 x1 x2 x3 x4 x5 x6 x7 x8 x9 xs0 xs1 xs2 xs3 xs8 xs9 xs10 xs11) y (cover0_C_10 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 hc0 hc1 hc2 x0 x1 x2 x3 x4 x5 x6 x7 x8 x9 xs0 xs1 xs2 xs3 xs8 xs9 xs10 xs11 y)

theorem out_D  (c : Dev nD) (i : grid0.Coords) (arg2 : Memref sig .tc .smem S3 .f32) (harg2 : arg2.IsWhole) (arg3 : Memref sig .tc .vmem S128x2048 .i32) (harg3 : arg3.IsWhole) (arg4 : Memref sig .tc .vmem S2048x4096 .fp8e4m3) (harg4 : arg4.IsWhole) (arg5 : Memref sig .tc .vmem S256x1024 .bf16) (harg5 : arg5.IsWhole) (arg6 : Memref sig .tc .vmem S256x1024 .i8) (harg6 : arg6.IsWhole) (arg7 : Memref sig .tc .vmem S256x1024 .i8) (harg7 : arg7.IsWhole) (arg8 : Memref sig .tc .vmem S256x1024 .i8) (harg8 : arg8.IsWhole) (arg9 : Memref sig .tc .vmem S32x256 .f32) (harg9 : arg9.IsWhole) (arg10 : Memref sig .tc .vmem S32x256 .f32) (harg10 : arg10.IsWhole) (arg11 : Memref sig .tc .vmem S32x256 .f32) (harg11 : arg11.IsWhole) (arg12 : Memref sig .tc .vmem S256x1024 .f32) (harg12 : arg12.IsWhole) (arg13 : Memref sig .tc .vmem S256x1024 .bf16) (harg13 : arg13.IsWhole) (arg14 : Memref sig .tc .vmem S256x1024 .i8) (harg14 : arg14.IsWhole) (arg15 : Memref sig .tc .vmem S256x1024 .i8) (harg15 : arg15.IsWhole) (arg16 : Memref sig .tc .vmem S32x256 .f32) (harg16 : arg16.IsWhole) (arg17 : Memref sig .tc .vmem S32x256 .f32) (harg17 : arg17.IsWhole) (arg18 : Memref sig .tc .vmem S128x2x128 .bf16) (harg18 : arg18.IsWhole) (arg19 : Memref sig .tc .vmem S128x2x128 .bf16) (harg19 : arg19.IsWhole) (arg20 : Memref sig .tc .vmem S128x2x128 .bf16) (harg20 : arg20.IsWhole) (arg21 : Memref sig .tc .vmem S64x2x4096 .bf16) (harg21 : arg21.IsWhole) (arg22 : Memref sig .tc .vmem S256x1024 .f32) (harg22 : arg22.IsWhole) (arg23 : Memref sig .tc .vmem S256x1024 .f32) (harg23 : arg23.IsWhole) (arg24 : Memref sig .tc .vmem S256x1024 .f32) (harg24 : arg24.IsWhole) (arg25 : Memref sig .tc .vmem S256x1024 .f32) (harg25 : arg25.IsWhole) (arg26 : Memref sig .tc .vmem S256x128 .f32) (harg26 : arg26.IsWhole) (arg27 : Memref sig .tc .vmem S256x128 .f32) (harg27 : arg27.IsWhole) (arg28 : Memref sig .tc .vmem S256x128 .f32) (harg28 : arg28.IsWhole) (arg29 : Memref sig .tc .vmem S256x128 .f32) (harg29 : arg29.IsWhole) (hc0 : ¬cond0_0 i) (hc1 : cond0_1 i) (hc2 : ¬cond0_2 i)
    (x0 : Vec Ideal S3 .f32) (x1 : Vec Ideal S128x2048 .i32) (x2 : Vec Ideal S2048x4096 .fp8e4m3) (x3 : Vec Ideal S256x1024 .bf16) (x4 : Vec Ideal S256x1024 .i8) (x5 : Vec Ideal S256x1024 .i8) (x6 : Vec Ideal S256x1024 .i8) (x7 : Vec Ideal S32x256 .f32) (x8 : Vec Ideal S32x256 .f32) (x9 : Vec Ideal S32x256 .f32) (xs3 : Vec Ideal S64x2x4096 .bf16) (xs8 : Vec Ideal S256x128 .f32) (xs9 : Vec Ideal S256x128 .f32) (xs10 : Vec Ideal S256x128 .f32) (xs11 : Vec Ideal S256x128 .f32) :
    out0_D_10 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 hc0 hc1 hc2 x0 x1 x2 x3 x4 x5 x6 x7 x8 x9 xs3 xs8 xs9 xs10 xs11 = KerBlock.G (lamOf x0) (KerBlock.DWof (i 1) x1 x2) (KerBlock.WSBof (i 1) (k0_pay10 (F := Ideal) x7) xs3) x3 x4 := by
  unfold out0_D_10
  rw [View.read_writes_junk_eq_canon]
  exact funext fun y => View.canon_apply_of_pieces _ _ (pieces_D c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 hc0 hc1 hc2 x0 x1 x2 x3 x4 x5 x6 x7 x8 x9 xs3 xs8 xs9 xs10 xs11) y (cover0_D_10 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 hc0 hc1 hc2 x0 x1 x2 x3 x4 x5 x6 x7 x8 x9 xs3 xs8 xs9 xs10 xs11 y)

theorem sout_D_0  (c : Dev nD) (i : grid0.Coords) (arg2 : Memref sig .tc .smem S3 .f32) (harg2 : arg2.IsWhole) (arg3 : Memref sig .tc .vmem S128x2048 .i32) (harg3 : arg3.IsWhole) (arg4 : Memref sig .tc .vmem S2048x4096 .fp8e4m3) (harg4 : arg4.IsWhole) (arg5 : Memref sig .tc .vmem S256x1024 .bf16) (harg5 : arg5.IsWhole) (arg6 : Memref sig .tc .vmem S256x1024 .i8) (harg6 : arg6.IsWhole) (arg7 : Memref sig .tc .vmem S256x1024 .i8) (harg7 : arg7.IsWhole) (arg8 : Memref sig .tc .vmem S256x1024 .i8) (harg8 : arg8.IsWhole) (arg9 : Memref sig .tc .vmem S32x256 .f32) (harg9 : arg9.IsWhole) (arg10 : Memref sig .tc .vmem S32x256 .f32) (harg10 : arg10.IsWhole) (arg11 : Memref sig .tc .vmem S32x256 .f32) (harg11 : arg11.IsWhole) (arg12 : Memref sig .tc .vmem S256x1024 .f32) (harg12 : arg12.IsWhole) (arg13 : Memref sig .tc .vmem S256x1024 .bf16) (harg13 : arg13.IsWhole) (arg14 : Memref sig .tc .vmem S256x1024 .i8) (harg14 : arg14.IsWhole) (arg15 : Memref sig .tc .vmem S256x1024 .i8) (harg15 : arg15.IsWhole) (arg16 : Memref sig .tc .vmem S32x256 .f32) (harg16 : arg16.IsWhole) (arg17 : Memref sig .tc .vmem S32x256 .f32) (harg17 : arg17.IsWhole) (arg18 : Memref sig .tc .vmem S128x2x128 .bf16) (harg18 : arg18.IsWhole) (arg19 : Memref sig .tc .vmem S128x2x128 .bf16) (harg19 : arg19.IsWhole) (arg20 : Memref sig .tc .vmem S128x2x128 .bf16) (harg20 : arg20.IsWhole) (arg21 : Memref sig .tc .vmem S64x2x4096 .bf16) (harg21 : arg21.IsWhole) (arg22 : Memref sig .tc .vmem S256x1024 .f32) (harg22 : arg22.IsWhole) (arg23 : Memref sig .tc .vmem S256x1024 .f32) (harg23 : arg23.IsWhole) (arg24 : Memref sig .tc .vmem S256x1024 .f32) (harg24 : arg24.IsWhole) (arg25 : Memref sig .tc .vmem S256x1024 .f32) (harg25 : arg25.IsWhole) (arg26 : Memref sig .tc .vmem S256x128 .f32) (harg26 : arg26.IsWhole) (arg27 : Memref sig .tc .vmem S256x128 .f32) (harg27 : arg27.IsWhole) (arg28 : Memref sig .tc .vmem S256x128 .f32) (harg28 : arg28.IsWhole) (arg29 : Memref sig .tc .vmem S256x128 .f32) (harg29 : arg29.IsWhole) (hc0 : ¬cond0_0 i) (hc1 : cond0_1 i) (hc2 : ¬cond0_2 i)
    (x0 : Vec Ideal S3 .f32) (x1 : Vec Ideal S128x2048 .i32) (x2 : Vec Ideal S2048x4096 .fp8e4m3) (x3 : Vec Ideal S256x1024 .bf16) (x4 : Vec Ideal S256x1024 .i8) (x5 : Vec Ideal S256x1024 .i8) (x6 : Vec Ideal S256x1024 .i8) (x7 : Vec Ideal S32x256 .f32) (x8 : Vec Ideal S32x256 .f32) (x9 : Vec Ideal S32x256 .f32) (xs3 : Vec Ideal S64x2x4096 .bf16) (xs8 : Vec Ideal S256x128 .f32) (xs9 : Vec Ideal S256x128 .f32) (xs10 : Vec Ideal S256x128 .f32) (xs11 : Vec Ideal S256x128 .f32) : sout0_D_0 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 hc0 hc1 hc2 x0 x1 x2 x3 x4 x5 x6 x7 x8 x9 xs3 xs8 xs9 xs10 xs11 = k0_pay10 (F := Ideal) x7 := by
  unfold sout0_D_0
  rw [View.read_writes_junk_eq_canon]
  exact tabs_D c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 hc0 hc1 hc2 x0 x1 x2 x3 x4 x5 x6 x7 x8 x9 xs3 xs8 xs9 xs10 xs11

variable (m : (ℓ : Loc nD τ sig) → Buf (Elt Ideal) ℓ)

/-- What holds after point `t`: the gradient's block, the table, the spreader. -/
def Holds (c : Dev nD) (t : Fin cfg0.N) : Prop :=
  (outsAt0 m c t.val t.isLt).1 = blk m c t ∧ (outsAt0 m c t.val t.isLt).2.2.2.2.2.2.1 = tab m c t
    ∧ (outsAt0 m c t.val t.isLt).2.2.2.2.2.2.2.2.2.1 = k0_pay6 (F := Ideal)

theorem holds_A (c : Dev nD) (t : Fin cfg0.N) (h0 : t.val % 56 = 0) (h1 : t.val % 4 = 0) (h2 : ¬t.val % 4 = 3) : Holds m c t := by
  unfold Holds
  rw [outsAt0_A m c t h0 h1 h2]
  refine ⟨?_, ?_, ?_⟩
  · dsimp only
    exact out_A ..
  · dsimp only
    exact sout_A_0 ..
  · dsimp only
    exact sout_A_3 ..

theorem before (t : Fin cfg0.N) : t.val - 1 < cfg0.N := Nat.lt_of_le_of_lt (Nat.sub_le _ _) t.isLt

theorem holds_D (c : Dev nD) (t : Fin cfg0.N) (h0 : ¬t.val % 56 = 0) (h1 : t.val % 4 = 0) (h2 : ¬t.val % 4 = 3)
    (ih : Holds m c ⟨t.val - 1, before t⟩) : Holds m c t := by
  obtain ⟨i0, i1, i2⟩ := ih
  unfold Holds
  rw [outsAt0_D m c t h0 h1 h2]
  refine ⟨?_, ?_, ?_⟩
  · refine Eq.trans (b := KerBlock.G (lamOf (iblk m c 0 t)) (KerBlock.DWof (grid0.coords t 1) (iblk m c 1 t) (iblk m c 2 t))
      (KerBlock.WSBof (grid0.coords t 1) (k0_pay10 (F := Ideal) (iblk m c 7 t)) (outsAt0 m c (t.val - 1) (before t)).2.2.2.2.2.2.2.2.2.1)
      (iblk m c 3 t) (iblk m c 4 t)) (by dsimp only; exact out_D ..) ?_
    unfold blk tab
    exact congrArg (fun z => KerBlock.G (lamOf (iblk m c 0 t)) (KerBlock.DWof (grid0.coords t 1) (iblk m c 1 t) (iblk m c 2 t))
      (KerBlock.WSBof (grid0.coords t 1) (k0_pay10 (F := Ideal) (iblk m c 7 t)) z) (iblk m c 3 t) (iblk m c 4 t)) i2
  · dsimp only
    exact sout_D_0 ..
  · exact i2

theorem holds_B (c : Dev nD) (t : Fin cfg0.N) (h0 : ¬t.val % 56 = 0) (h1 : ¬t.val % 4 = 0) (h2 : ¬t.val % 4 = 3)
    (ih : Holds m c ⟨t.val - 1, before t⟩) : Holds m c t := by
  obtain ⟨i0, i1, i2⟩ := ih
  have hk : tab m c ⟨t.val - 1, before t⟩ = tab m c t := by
    unfold tab
    rw [iblk7_keep m c ⟨t.val - 1, before t⟩ t (by simp only []; omega)]
  unfold Holds
  rw [outsAt0_B m c t h0 h1 h2]
  refine ⟨?_, ?_, ?_⟩
  · refine Eq.trans (b := KerBlock.G (lamOf (iblk m c 0 t)) (KerBlock.DWof (grid0.coords t 1) (iblk m c 1 t) (iblk m c 2 t))
      (KerBlock.WSBof (grid0.coords t 1) (outsAt0 m c (t.val - 1) (before t)).2.2.2.2.2.2.1 (outsAt0 m c (t.val - 1) (before t)).2.2.2.2.2.2.2.2.2.1)
      (iblk m c 3 t) (iblk m c 4 t)) (by dsimp only; exact out_B ..) ?_
    unfold blk
    exact congrArg₂ (fun y z => KerBlock.G (lamOf (iblk m c 0 t)) (KerBlock.DWof (grid0.coords t 1) (iblk m c 1 t) (iblk m c 2 t))
      (KerBlock.WSBof (grid0.coords t 1) y z) (iblk m c 3 t) (iblk m c 4 t)) (i1.trans hk) i2
  · exact i1.trans hk
  · exact i2

theorem holds_C (c : Dev nD) (t : Fin cfg0.N) (h0 : ¬t.val % 56 = 0) (h1 : ¬t.val % 4 = 0) (h2 : t.val % 4 = 3)
    (ih : Holds m c ⟨t.val - 1, before t⟩) : Holds m c t := by
  obtain ⟨i0, i1, i2⟩ := ih
  have hk : tab m c ⟨t.val - 1, before t⟩ = tab m c t := by
    unfold tab
    rw [iblk7_keep m c ⟨t.val - 1, before t⟩ t (by simp only []; omega)]
  unfold Holds
  rw [outsAt0_C m c t h0 h1 h2]
  refine ⟨?_, ?_, ?_⟩
  · refine Eq.trans (b := KerBlock.G (lamOf (iblk m c 0 t)) (KerBlock.DWof (grid0.coords t 1) (iblk m c 1 t) (iblk m c 2 t))
      (KerBlock.WSBof (grid0.coords t 1) (outsAt0 m c (t.val - 1) (before t)).2.2.2.2.2.2.1 (outsAt0 m c (t.val - 1) (before t)).2.2.2.2.2.2.2.2.2.1)
      (iblk m c 3 t) (iblk m c 4 t)) (by dsimp only; exact out_C ..) ?_
    unfold blk
    exact congrArg₂ (fun y z => KerBlock.G (lamOf (iblk m c 0 t)) (KerBlock.DWof (grid0.coords t 1) (iblk m c 1 t) (iblk m c 2 t))
      (KerBlock.WSBof (grid0.coords t 1) y z) (iblk m c 3 t) (iblk m c 4 t)) (i1.trans hk) i2
  · exact i1.trans hk
  · exact i2

theorem holds (c : Dev nD) : ∀ (n : ℕ) (hn : n < cfg0.N), Holds m c ⟨n, hn⟩
  | 0, hn => holds_A m c ⟨0, hn⟩ rfl rfl (show ¬(0 : ℕ) % 4 = 3 by decide)
  | n + 1, hn => by
    have hN := lt_of_lt_of_eq hn (show cfg0.N = 56 from N_0)
    have ih := holds c n (Nat.lt_of_succ_lt hn)
    by_cases h1 : (n + 1) % 4 = 0
    · exact holds_D m c ⟨n + 1, hn⟩ (by simp only []; omega) h1 (by simp only []; omega) ih
    · by_cases h2 : (n + 1) % 4 = 3
      · exact holds_C m c ⟨n + 1, hn⟩ (by simp only []; omega) h1 h2 ih
      · exact holds_B m c ⟨n + 1, hn⟩ (by simp only []; omega) h1 h2 ih

end Cert.KerPts

end
-- ==== Proof.RefRun.lean ====
/- Hand-written, untrusted: the reference's result array as one function of its arguments (`G`, `run`), at any float
   values. The body makes one store of the whole result, whose payload reads the whole input blocks and one word (`out_eq`);
   at the one grid point each window's block is its whole array. -/
module

public import proofs.«01_k».proof.Proof.Gen.ReferenceIdeal.Value
public import Idealize.ShloMosaic.Lib.Pipeline.FrameTail

@[expose] public section

noncomputable section

namespace Cert.RefRun

open Cert.ReferenceIdeal Cert.ReferenceIdeal.Gen Cert.ReferenceIdeal.Value Idealize.ShloMosaic Idealize.ShloMosaic.TcCoe Idealize.SL.Sem

variable {F : FTy → Type} [FloatOps F] [Named F]

/-- Place `k` of the three-word argument. -/
def word (k : Fin 3) : S3.Idx := fun a => match a with | ⟨0, _⟩ => k

/-- The body's payload, from the whole arrays. -/
def pay (s : Vec F S3 .f32) (x : Vec F S3584x2048 .bf16) (y : Vec F S2048x4096 .fp8e4m3) (v : Vec F S3584x4096 .bf16)
    (k : Vec F S3584x4096 .i8) (w : Vec F S3584x4096 .f32) : Vec F S3584x4096 .f32 :=
  k0_pay1 (k0_pay2 x y) (k0_pay5 v) (k0_pay6 v) (k0_pay7 k) (k0_pay8 v) w (s (word 0))

theorem hz : (![0, 0] : Fin 2 → Nat) = fun _ => 0 := funext fun a => by fin_cases a <;> rfl

theorem out_eq (c : Dev nD)
    (arg0 : Memref sig .tc .smem S3 .f32) (h0 : arg0.IsWhole)
    (arg1 : Memref sig .tc .vmem S3584x2048 .bf16) (h1 : arg1.IsWhole)
    (arg2 : Memref sig .tc .vmem S2048x4096 .fp8e4m3) (h2 : arg2.IsWhole)
    (arg3 : Memref sig .tc .vmem S3584x4096 .bf16) (h3 : arg3.IsWhole)
    (arg4 : Memref sig .tc .vmem S3584x4096 .i8) (h4 : arg4.IsWhole)
    (arg5 : Memref sig .tc .vmem S3584x4096 .f32) (h5 : arg5.IsWhole)
    (arg6 : Memref sig .tc .vmem S3584x4096 .f32) (h6 : arg6.IsWhole)
    (x0 : Vec F S3 .f32)
    (x1 : Vec F S3584x2048 .bf16)
    (x2 : Vec F S2048x4096 .fp8e4m3)
    (x3 : Vec F S3584x4096 .bf16)
    (x4 : Vec F S3584x4096 .i8)
    (x5 : Vec F S3584x4096 .f32)
    : out0_A_6 c arg0 h0 arg1 h1 arg2 h2 arg3 h3 arg4 h4 arg5 h5 arg6 h6 x0 x1 x2 x3 x4 x5 = pay x0 x1 x2 x3 x4 x5 := by
  unfold out0_A_6
  rw [View.read_writes_junk_eq_canon]
  show View.canon ([⟨Rect.unit ![0, 0] S3584x4096.size inb_S3584x4096_S3584x4096_0_0,
      k0_pay1 (k0_pay2 (View.readAt (Elt F) arg1.view (Rect.unit (s := S3584x2048) ![0, 0] S3584x2048.size inb_S3584x2048_S3584x2048_0_0).toLoadRect (h1.unread x1))
          (View.readAt (Elt F) arg2.view (Rect.unit (s := S2048x4096) ![0, 0] S2048x4096.size inb_S2048x4096_S2048x4096_0_0).toLoadRect (h2.unread x2)))
        (k0_pay5 (View.readAt (Elt F) arg3.view (Rect.unit (s := S3584x4096) ![0, 0] S3584x4096.size inb_S3584x4096_S3584x4096_0_0).toLoadRect (h3.unread x3)))
        (k0_pay6 (View.readAt (Elt F) arg3.view (Rect.unit (s := S3584x4096) ![0, 0] S3584x4096.size inb_S3584x4096_S3584x4096_0_0).toLoadRect (h3.unread x3)))
        (k0_pay7 (View.readAt (Elt F) arg4.view (Rect.unit (s := S3584x4096) ![0, 0] S3584x4096.size inb_S3584x4096_S3584x4096_0_0).toLoadRect (h4.unread x4)))
        (k0_pay8 (View.readAt (Elt F) arg3.view (Rect.unit (s := S3584x4096) ![0, 0] S3584x4096.size inb_S3584x4096_S3584x4096_0_0).toLoadRect (h3.unread x3)))
        (View.readAt (Elt F) arg5.view (Rect.unit (s := S3584x4096) ![0, 0] S3584x4096.size inb_S3584x4096_S3584x4096_0_0).toLoadRect (h5.unread x5))
        (View.readAt (Elt F) arg0.view (Rect.unit (s := S3) ![0] S1.size inb_S3_S1_0).toLoadRect (h0.unread x0) _)⟩] :
      List (View.Piece (Elt F) S3584x4096 .f32)) = _
  rw [View.canon_unit_zero hz]
  simp only [View.readAt_eq_ld, h0.read_unread, h1.read_unread, h2.read_unread, h3.read_unread, h4.read_unread, h5.read_unread]
  rw [View.ld_unit_zero hz, View.ld_unit_zero hz, View.ld_unit_zero hz, View.ld_unit_zero hz, View.ld_unit_zero hz]
  exact congrArg (k0_pay1 _ _ _ _ _ _) (congrArg x0 (funext fun a => by match a with | ⟨0, _⟩ => rfl))

variable (m : (ℓ : Loc nD τ sig) → Buf (Elt F) ℓ) (ρ : Dev nD → PrngReg)

theorem idx_zero0 : ∀ t : Fin cfg0.N, win0_0.index t (0 : Fin 1) = 0 := (by decide +kernel : ∀ t : Fin grid0.N, _)

theorem emb0 (t : Fin cfg0.N) (j : S3.Idx) : ((cfg0.win 0).blk t).view.emb j = j := by
  have e0 := idx_zero0 t
  funext a; apply Fin.ext
  match a with
  | ⟨0, _⟩ => show win0_0.index t (0 : Fin 1) * 3 + 1 * (j 0).val = (j 0).val; omega

theorem iblk0_eq (c : Dev nD) (t : Fin cfg0.N) : iblk m c 0 t = V m c main_arg0 := by
  funext j; show V m c main_arg0 (((cfg0.win 0).blk t).view.emb j) = V m c main_arg0 j; rw [emb0]

theorem idx_zero1 : ∀ t : Fin cfg0.N, win0_1.index t (0 : Fin 2) = 0 ∧ win0_1.index t (1 : Fin 2) = 0 :=
  (by decide +kernel : ∀ t : Fin grid0.N, _)

theorem emb1 (t : Fin cfg0.N) (j : S3584x2048.Idx) : ((cfg0.win 1).blk t).view.emb j = j := by
  obtain ⟨e0, e1⟩ := idx_zero1 t
  funext a; apply Fin.ext
  match a with
  | ⟨0, _⟩ => show win0_1.index t (0 : Fin 2) * 3584 + 1 * (j 0).val = (j 0).val; omega
  | ⟨1, _⟩ => show win0_1.index t (1 : Fin 2) * 2048 + 1 * (j 1).val = (j 1).val; omega

theorem iblk1_eq (c : Dev nD) (t : Fin cfg0.N) : iblk m c 1 t = V m c main_v2 := by
  funext j; show V m c main_v2 (((cfg0.win 1).blk t).view.emb j) = V m c main_v2 j; rw [emb1]

theorem idx_zero2 : ∀ t : Fin cfg0.N, win0_2.index t (0 : Fin 2) = 0 ∧ win0_2.index t (1 : Fin 2) = 0 :=
  (by decide +kernel : ∀ t : Fin grid0.N, _)

theorem emb2 (t : Fin cfg0.N) (j : S2048x4096.Idx) : ((cfg0.win 2).blk t).view.emb j = j := by
  obtain ⟨e0, e1⟩ := idx_zero2 t
  funext a; apply Fin.ext
  match a with
  | ⟨0, _⟩ => show win0_2.index t (0 : Fin 2) * 2048 + 1 * (j 0).val = (j 0).val; omega
  | ⟨1, _⟩ => show win0_2.index t (1 : Fin 2) * 4096 + 1 * (j 1).val = (j 1).val; omega

theorem iblk2_eq (c : Dev nD) (t : Fin cfg0.N) : iblk m c 2 t = V m c main_arg2 := by
  funext j; show V m c main_arg2 (((cfg0.win 2).blk t).view.emb j) = V m c main_arg2 j; rw [emb2]

theorem idx_zero3 : ∀ t : Fin cfg0.N, win0_3.index t (0 : Fin 2) = 0 ∧ win0_3.index t (1 : Fin 2) = 0 :=
  (by decide +kernel : ∀ t : Fin grid0.N, _)

theorem emb3 (t : Fin cfg0.N) (j : S3584x4096.Idx) : ((cfg0.win 3).blk t).view.emb j = j := by
  obtain ⟨e0, e1⟩ := idx_zero3 t
  funext a; apply Fin.ext
  match a with
  | ⟨0, _⟩ => show win0_3.index t (0 : Fin 2) * 3584 + 1 * (j 0).val = (j 0).val; omega
  | ⟨1, _⟩ => show win0_3.index t (1 : Fin 2) * 4096 + 1 * (j 1).val = (j 1).val; omega

theorem iblk3_eq (c : Dev nD) (t : Fin cfg0.N) : iblk m c 3 t = V m c main_arg3 := by
  funext j; show V m c main_arg3 (((cfg0.win 3).blk t).view.emb j) = V m c main_arg3 j; rw [emb3]

theorem idx_zero4 : ∀ t : Fin cfg0.N, win0_4.index t (0 : Fin 2) = 0 ∧ win0_4.index t (1 : Fin 2) = 0 :=
  (by decide +kernel : ∀ t : Fin grid0.N, _)

theorem emb4 (t : Fin cfg0.N) (j : S3584x4096.Idx) : ((cfg0.win 4).blk t).view.emb j = j := by
  obtain ⟨e0, e1⟩ := idx_zero4 t
  funext a; apply Fin.ext
  match a with
  | ⟨0, _⟩ => show win0_4.index t (0 : Fin 2) * 3584 + 1 * (j 0).val = (j 0).val; omega
  | ⟨1, _⟩ => show win0_4.index t (1 : Fin 2) * 4096 + 1 * (j 1).val = (j 1).val; omega

theorem iblk4_eq (c : Dev nD) (t : Fin cfg0.N) : iblk m c 4 t = V m c main_arg4 := by
  funext j; show V m c main_arg4 (((cfg0.win 4).blk t).view.emb j) = V m c main_arg4 j; rw [emb4]

theorem idx_zero5 : ∀ t : Fin cfg0.N, win0_5.index t (0 : Fin 2) = 0 ∧ win0_5.index t (1 : Fin 2) = 0 :=
  (by decide +kernel : ∀ t : Fin grid0.N, _)

theorem emb5 (t : Fin cfg0.N) (j : S3584x4096.Idx) : ((cfg0.win 5).blk t).view.emb j = j := by
  obtain ⟨e0, e1⟩ := idx_zero5 t
  funext a; apply Fin.ext
  match a with
  | ⟨0, _⟩ => show win0_5.index t (0 : Fin 2) * 3584 + 1 * (j 0).val = (j 0).val; omega
  | ⟨1, _⟩ => show win0_5.index t (1 : Fin 2) * 4096 + 1 * (j 1).val = (j 1).val; omega

theorem iblk5_eq (c : Dev nD) (t : Fin cfg0.N) : iblk m c 5 t = V m c main_v4 := by
  funext j; show V m c main_v4 (((cfg0.win 5).blk t).view.emb j) = V m c main_v4 j; rw [emb5]

theorem idx_zero6 : ∀ t : Fin cfg0.N, win0_6.index t (0 : Fin 2) = 0 ∧ win0_6.index t (1 : Fin 2) = 0 :=
  (by decide +kernel : ∀ t : Fin grid0.N, _)

theorem emb6 (t : Fin cfg0.N) (j : S3584x4096.Idx) : ((cfg0.win 6).blk t).view.emb j = j := by
  obtain ⟨e0, e1⟩ := idx_zero6 t
  funext a; apply Fin.ext
  match a with
  | ⟨0, _⟩ => show win0_6.index t (0 : Fin 2) * 3584 + 1 * (j 0).val = (j 0).val; omega
  | ⟨1, _⟩ => show win0_6.index t (1 : Fin 2) * 4096 + 1 * (j 1).val = (j 1).val; omega

theorem cut6_eq (t : Fin cfg0.N) (X : Vec F S3584x4096 .f32) :
    (cfg0.win 6).cut (grid0.coords t) X = ((cfg0.win 6).blk t).view.read (Elt F) X := by
  funext j
  show X j = X (((cfg0.win 6).blk t).view.emb j)
  rw [emb6]

theorem flushed6_eq (c : Dev nD) (t : Fin cfg0.N) :
    (dats m 0 c).flushed 6 t = ((cfg0.win 6).blk t).view.read (Elt F) (pay (V m c main_arg0) (V m c main_v2) (V m c main_arg2) (V m c main_arg3) (V m c main_arg4) (V m c main_v4)) := by
  rw [flushed6_A, out_eq, iblk0_eq, iblk1_eq, iblk2_eq, iblk3_eq, iblk4_eq, iblk5_eq]
  exact cut6_eq t _

theorem covered6 (i : S3584x4096.Idx) :
    ∃ t : Fin cfg0.N, (cfg0.win 6).flush t = true ∧ i ∈ ((cfg0.win 6).blk t).view.set :=
  ⟨(⟨0, by decide⟩ : Fin cfg0.N), flush0_6 _, by
    have h := ((cfg0.win 6).blk (⟨0, by decide⟩ : Fin cfg0.N)).view.emb_mem_set i; rwa [emb6] at h⟩

/-- The left factor as the host unpacks it: row `2r + p` is half `p` of word row `r`. -/
def lhsOf (x : (⟨S1792x2048, .i32⟩ : BufTy).Contents (Elt F)) : (⟨S3584x2048, .bf16⟩ : BufTy).Contents (Elt F) :=
  shapeCast S3584x2048 (transpose S1792x2x2048 [0, 2, 1] (bitcastToFloat (F := F) .bf16
    (Host.bitcastConvertNarrow S1792x2048x2 16 x splits_S1792x2048_w32_S1792x2048x2_w16))
    transposes_S1792x2048x2_S1792x2x2048_0_2_1) shapeCasts_S1792x2x2048_S3584x2048

/-- The scales, each repeated over its group of 128 columns. -/
def wsOf (x : (⟨S3584x32, .f32⟩ : BufTy).Contents (Elt F)) : (⟨S3584x4096, .f32⟩ : BufTy).Contents (Elt F) :=
  shapeCast S3584x4096 (broadcastInDim S3584x32x128 ![0, 1] bcast_S3584x32_S3584x32x128_0_1 x) shapeCasts_S3584x32x128_S3584x4096

theorem V_main_v2 (c : Dev nD) : V m c main_v2 = lhsOf (m ((c : Thread nD τ).loc main_arg1)) := by
  show StableHlo.after hostOps0 _ (Proc.devRef .tc main_v2) = _
  unfold_abbrev_sides
  after_results
  rfl

theorem V_main_v4 (c : Dev nD) : V m c main_v4 = wsOf (m ((c : Thread nD τ).loc main_arg7)) := by
  show StableHlo.after hostOps0 _ (Proc.devRef .tc main_v4) = _
  unfold_abbrev_sides
  after_results
  rfl

/-- The result array as one function of the argument arrays. -/
def G (m : (ℓ : Loc nD τ sig) → Buf (Elt F) ℓ) (c : Dev nD) : Vec F S3584x4096 .f32 :=
  pay (m ((c : Thread nD τ).loc main_arg0)) (lhsOf (m ((c : Thread nD τ).loc main_arg1))) (m ((c : Thread nD τ).loc main_arg2))
    (m ((c : Thread nD τ).loc main_arg3)) (m ((c : Thread nD τ).loc main_arg4)) (wsOf (m ((c : Thread nD τ).loc main_arg7)))

theorem final6 (c : Dev nD) : (dats m 0 c).arrAt 6 cfg0.N = G m c :=
  ((dats m 0 c).arrAt_eq_of_cover 6 (pay (V m c main_arg0) (V m c main_v2) (V m c main_arg2) (V m c main_arg3) (V m c main_arg4) (V m c main_v4)) (fun t _ => flushed6_eq m c t) covered6).trans
    (by rw [V_main_arg0, V_main_v2, V_main_arg2, V_main_arg3, V_main_arg4, V_main_v4]; rfl)

end Cert.RefRun

end
-- ==== Proof.RefVal.lean ====
/- Hand-written, untrusted: the reference's result read at one entry, over the extended reals. -/
module

public import proofs.«01_k».proof.Proof.RefRun
public import proofs.«01_k».proof.Proof.Scalar
public import proofs.«01_k».proof.Proof.Consts
public import Idealize.ShloMosaic.Lib.BitcastConvert

@[expose] public section

noncomputable section

namespace Cert.RefVal

open Cert.ReferenceIdeal Cert.ReferenceIdeal.Gen Idealize.ShloMosaic

theorem pay_at (s : Vec Ideal S3 .f32) (x : Vec Ideal S3584x2048 .bf16) (y : Vec Ideal S2048x4096 .fp8e4m3)
    (v : Vec Ideal S3584x4096 .bf16) (k : Vec Ideal S3584x4096 .i8) (w : Vec Ideal S3584x4096 .f32) (r : Fin 3584) (n : Fin 4096) :
    RefRun.pay s x y v k w (ix2 r n)
      = Scalar.dvRef (s (RefRun.word 0)) (∑ t : Fin 2048, x (ix2 r t) * y (ix2 t n)) (w (ix2 r n)) (v (ix2 r n))
          (k (ix2 r n) ≠ 0) := by
  pointwise [RefRun.pay, k0_pay1, k0_pay2, k0_pay3, k0_pay4, k0_pay5, k0_pay6, k0_pay7, k0_pay8]
  have e1 : (Named.named κ "stretch" 0x3F99999A#32 : Ideal .f32) = ((6 / 5 : ℝ) : EReal) := rfl
  have e2 : (Named.named κ "gamma" 0xBDCCCCCD#32 : Ideal .f32) = ((-1 / 10 : ℝ) : EReal) := rfl
  rw [e1, e2]
  simp only [Consts.byte_ne, Consts.andi_bits, Consts.select_bits, Consts.two_f32, Consts.neg_eight_f32, zero_sub]
  rfl

theorem ws_at (x : (⟨S3584x32, .f32⟩ : BufTy).Contents (Elt Ideal)) (r : Fin 3584) (n : Fin 4096) :
    RefRun.wsOf x (ix2 r n) = x (ix2 r ⟨n.val / 128, by omega⟩) := by
  pointwise [RefRun.wsOf]

theorem lhs_at (x : (⟨S1792x2048, .i32⟩ : BufTy).Contents (Elt Ideal)) (r : Fin 3584) (t : Fin 2048) :
    RefRun.lhsOf x (ix2 r t)
      = Ideal.ofBits .bf16 ((x (ix2 ⟨r.val / 2, by omega⟩ t)).extractLsb' (r.val % 2 * 16) 16) := by
  pointwise [RefRun.lhsOf]
  congr 3
  funext a; apply Fin.ext
  match a with
  | ⟨0, _⟩ => rfl
  | ⟨1, _⟩ => rfl

end Cert.RefVal

end
-- ==== Proof.RefAt.lean ====
/- Hand-written, untrusted: an entry of the reference's result, from the argument arrays. -/
module

public import proofs.«01_k».proof.Proof.RefVal

@[expose] public section

noncomputable section

namespace Cert.RefVal

open Cert.ReferenceIdeal Cert.ReferenceIdeal.Gen Idealize.ShloMosaic Idealize.ShloMosaic.TcCoe Idealize.SL.Sem

variable (m : (ℓ : Loc nD τ sig) → Buf (Elt Ideal) ℓ)

/-- The argument arrays the gradient reads. -/
abbrev A0 (c : Dev nD) : Vec Ideal S3 .f32 := m ((c : Thread nD τ).loc main_arg0)
abbrev A1 (c : Dev nD) : Vec Ideal S1792x2048 .i32 := m ((c : Thread nD τ).loc main_arg1)
abbrev A2 (c : Dev nD) : Vec Ideal S2048x4096 .fp8e4m3 := m ((c : Thread nD τ).loc main_arg2)
abbrev A3 (c : Dev nD) : Vec Ideal S3584x4096 .bf16 := m ((c : Thread nD τ).loc main_arg3)
abbrev A4 (c : Dev nD) : Vec Ideal S3584x4096 .i8 := m ((c : Thread nD τ).loc main_arg4)
abbrev A7 (c : Dev nD) : Vec Ideal S3584x32 .f32 := m ((c : Thread nD τ).loc main_arg7)

theorem G_at (c : Dev nD) (r : Fin 3584) (n : Fin 4096) :
    RefRun.G m c (ix2 r n)
      = Scalar.dvRef (A0 m c (RefRun.word 0))
          (∑ u : Fin 2048, Ideal.ofBits .bf16 (BitVec.extractLsb' (r.val % 2 * 16) 16 (A1 m c (ix2 (n0 := 1792) (n1 := 2048) ⟨r.val / 2, by omega⟩ u)))
            * A2 m c (ix2 (n0 := 2048) (n1 := 4096) u n))
          (A7 m c (ix2 (n0 := 3584) (n1 := 32) r ⟨n.val / 128, by omega⟩))
          (A3 m c (ix2 (n0 := 3584) (n1 := 4096) r n))
          (A4 m c (ix2 (n0 := 3584) (n1 := 4096) r n) ≠ 0) := by
  refine (pay_at (A0 m c) (RefRun.lhsOf (A1 m c)) (A2 m c) (A3 m c) (A4 m c) (RefRun.wsOf (A7 m c)) r n).trans ?_
  rw [ws_at]
  simp only [lhs_at]

end Cert.RefVal

end
-- ==== Proof.KerFin.lean ====
/- Hand-written, untrusted: the kernel's first result array, entry by entry, and its equality with the reference's. -/
module

public import proofs.«01_k».proof.Proof.KerPts
public import proofs.«01_k».proof.Proof.RefAt
public import proofs.«01_k».proof.Proof.Gen.KernelIdeal.Value

@[expose] public section

noncomputable section

namespace Cert.KerFin

open Cert.KernelIdeal Cert.KernelIdeal.Gen Cert.KernelIdeal.Value Cert.KerRun Cert.KerWin Idealize.ShloMosaic Idealize.ShloMosaic.TcCoe Idealize.SL.Sem

variable (m : (ℓ : Loc nD τ sig) → Buf (Elt Ideal) ℓ)

theorem G10_at (c : Dev nD) (r : Fin 3584) (n : Fin 4096)
    (hf : ∀ g : Fin 32, ∃ x : ℝ, A7 m c (ix2 (n0 := 3584) (n1 := 32) r g) = x) :
    G10 m c (ix2 (n0 := 3584) (n1 := 4096) r n)
      = Scalar.dvRef (A0 m c (word 0))
          (∑ u : Fin 2048, Ideal.ofBits .bf16 (BitVec.extractLsb' (r.val % 2 * 16) 16 (A1 m c (ix2 (n0 := 1792) (n1 := 2048) ⟨r.val / 2, by omega⟩ u)))
            * A2 m c (ix2 (n0 := 2048) (n1 := 4096) u n))
          (A7 m c (ix2 (n0 := 3584) (n1 := 32) r ⟨n.val / 128, by omega⟩))
          (A3 m c (ix2 (n0 := 3584) (n1 := 4096) r n))
          (A4 m c (ix2 (n0 := 3584) (n1 := 4096) r n) ≠ 0) := by
  have hp : pt10Of (ix2 (n0 := 3584) (n1 := 4096) r n) = 4 * (r.val / 256) + n.val / 1024 := by
    show 4 * (r.val / 256 - 0) + 1 * (n.val / 1024 - 0) = _
    omega
  have hlt : pt10Of (ix2 (n0 := 3584) (n1 := 4096) r n) < cfg0.N := by
    rw [hp, show cfg0.N = 56 from N_0]; omega
  have hl : loc10Of (ix2 (n0 := 3584) (n1 := 4096) r n)
      = ix2 (n0 := 256) (n1 := 1024) ⟨r.val % 256, by omega⟩ ⟨n.val % 1024, by omega⟩ := by
    funext a; match a with
    | ⟨0, _⟩ => rfl
    | ⟨1, _⟩ => rfl
  unfold G10
  rw [dif_pos hlt, ← outsAt0_sweep m c _ hlt, hl]
  have hb := (KerPts.holds m c _ hlt).1
  refine (congrFun hb _).trans ?_
  exact blk_at m c ⟨_, hlt⟩ _ _ r n (by simp only [hp]; omega) (by simp only [hp]; omega) hf

end Cert.KerFin

end
-- ==== Proof.PreFin.lean ====
/- Hand-written, untrusted: what the precondition says of a scale: it is a real number. -/
module

public import proofs.«01_k».proof.Pre_scales_finite
public import Idealize.ShloMosaic.Lib.Pointwise

@[expose] public section

noncomputable section

namespace Cert.PreFin

open Idealize.ShloMosaic

theorem facts : Cert.Pre_scales_finite.Facts := ⟨by decide⟩

theorem inf_f32 : Ideal.ofBits .f32 0x7F800000#32 = ⊤ := by simp [Ideal.ofBits, Ideal.ieee]

theorem real_of_lt (x : EReal) (h : BitVec.ofBool (decide (max x (-x) < ⊤)) = 1#1) : ∃ y : ℝ, x = y := by
  induction x with
  | bot => simp at h
  | top => simp at h
  | coe y => exact ⟨y, rfl⟩

theorem finite [Cert.Pre_scales_finite.Facts] (x0 : FVec Ideal Pre_scales_finite.S3 .f32) (x1 : IVec Pre_scales_finite.S1792x2048 32)
    (x2 : FVec Ideal Pre_scales_finite.S2048x4096 .fp8e4m3) (x3 : FVec Ideal Pre_scales_finite.S3584x4096 .bf16)
    (x4 x5 x6 : IVec Pre_scales_finite.S3584x4096 8) (x7 x8 x9 : FVec Ideal Pre_scales_finite.S3584x32 .f32)
    (h : Cert.Pre_scales_finite.fn (F := Ideal) x0 x1 x2 x3 x4 x5 x6 x7 x8 x9 = fun _ => 1#1) (r : Fin 3584) (g : Fin 32) :
    ∃ y : ℝ, x7 (ix2 r g) = y := by
  have hp := congrFun h (ix2 r g)
  refine real_of_lt _ (Eq.trans ?_ hp)
  show _ = BitVec.ofBool _
  rw [← inf_f32]
  rfl

end Cert.PreFin

end
-- ==== Proof.Claims.lean ====
/- Hand-written, untrusted: the claims, from the generated frames and the two programs' result arrays. -/
module

public import proofs.«01_k».proof.Defs
public import proofs.«01_k».proof.Proof.Gen.Kernel.Frame
public import proofs.«01_k».proof.Proof.Gen.ReferenceIdeal.Frame
public import proofs.«01_k».proof.Proof.KerFin
public import proofs.«01_k».proof.Proof.PreFin
public import Idealize.ShloMosaic.Lib.Bf16PairInverse

@[expose] public section

noncomputable section

namespace Cert.Proof.Claims

open Idealize.ShloMosaic Idealize.ShloMosaic.TcCoe Idealize.SL.Sem

theorem preserves : Cert.preserves_Kernel_KernelIdeal :=
  ⟨IdealRules.bf16_pair.bufferStatement _ _, IdealRules.bf16_pair.bufferStatement _ _,
    IdealRules.named_const.statement _ _ _ _ _ rfl, IdealRules.bf16_pair.statement _ _, IdealRules.bf16_pair.statement _ _,
    IdealRules.named_const.statement _ _ _ _ _ rfl, IdealRules.truncf_extf.statement _ _ _, IdealRules.bf16_pair.statement _ _,
    IdealRules.bf16_pair.statement _ _, IdealRules.bf16_pair.statement _ _, IdealRules.bf16_pair.statement _ _,
    IdealRules.named_const.statement _ _ _ _ _ rfl⟩

instance : Cert.Pre_scales_finite.Facts := PreFin.facts

/-- Arguments that agree and finite scales: the two programs' result arrays are one. -/
theorem result_eq (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.KernelIdeal.nD)
    (hf : ∀ (r : Fin 3584) (g : Fin 32), ∃ x : ℝ, KerWin.A7 m c (ix2 (n0 := 3584) (n1 := 32) r g) = x)
    (h0 : RefVal.A0 m' c = KerWin.A0 m c) (h1 : RefVal.A1 m' c = KerWin.A1 m c) (h2 : RefVal.A2 m' c = KerWin.A2 m c)
    (h3 : RefVal.A3 m' c = KerWin.A3 m c) (h4 : RefVal.A4 m' c = KerWin.A4 m c) (h7 : RefVal.A7 m' c = KerWin.A7 m c) :
    RefRun.G m' c = Cert.KernelIdeal.Value.G10 m c := by
  have key : ∀ x : Cert.ReferenceIdeal.S3584x4096.Idx, RefRun.G m' c x = (Cert.KernelIdeal.Value.G10 m c : Vec Ideal Cert.ReferenceIdeal.S3584x4096 .f32) x := fun x => by
    have hx : x = ix2 (n0 := 3584) (n1 := 4096) (x 0) (x 1) := by
      funext d; match d with
      | ⟨0, _⟩ => rfl
      | ⟨1, _⟩ => rfl
    rw [hx]
    refine (RefVal.G_at m' c (x 0) (x 1)).trans (Eq.trans ?_ (KerFin.G10_at m c (x 0) (x 1) (hf (x 0))).symm)
    rw [h0, h1, h2, h3, h4, h7]
    rfl
  exact funext key

theorem algebraic : Cert.algebraic_KernelIdeal_ReferenceIdeal_pre_scales_finite := by
  intro m ρ m' ρ' hpre hagree
  refine ⟨fun c => Cert.KernelIdeal.Value.G10 m c, ?_, ?_⟩
  · refine (θ_run Cert.KernelIdeal.defs _ _).mono (fun _ h c => ?_) (Cert.KernelIdeal.Value.run (F := Ideal) m ρ)
    obtain ⟨a, -, -, -, -, -, b⟩ := h c
    exact ⟨a, b⟩
  · refine (θ_run Cert.ReferenceIdeal.defs _ _).mono (fun _ h c => ⟨(h c).1.trans ?_, (h c).2⟩)
      (Cert.ReferenceIdeal.Value.run_blocks (F := Ideal) m' ρ')
    obtain ⟨h0, h1, h2, h3, h4, -, -, h7, -, -⟩ := hagree c
    rw [RefRun.final6 m' c]
    exact result_eq m m' c (fun r g => PreFin.finite _ _ _ _ _ _ _ _ _ _ (hpre c) r g) h0 h1 h2 h3 h4 h7

end Cert.Proof.Claims

end
-- ==== Proof.BackKer.lean ====
/- Hand-written, untrusted: what one grid point of the backward product leaves in its two output blocks, over the
   extended reals. -/
module

public import proofs.«01_k».proof.Proof.Gen.BackIdeal.Value
public import Idealize.ShloMosaic.Lib.Claim
public import Idealize.ShloMosaic.Lib.ValueLayout
public import Idealize.ShloMosaic.Lib.BitcastPair
public import Idealize.ShloMosaic.PureOps.Ideal
public import Idealize.ShloMosaic.Lib.Pointwise
public import Idealize.ShloMosaic.Lib.IdealHost
public import Idealize.ShloMosaic.Lib.Pipeline.FrameTail

@[expose] public section

noncomputable section

namespace Cert.BackKer

open Cert.BackIdeal Cert.BackIdeal.Gen Idealize.ShloMosaic Idealize.ShloMosaic.TcCoe Idealize.SL.Sem

/-- Half `h` of a word, read as a bf16 number. -/
def half (w : BitVec 32) (h : ℕ) : EReal := Ideal.ofBits .bf16 (w.extractLsb' (h * 16) 16)

/-- One stored value of a strip: an entry of the product of the unpacked words, times the factor. -/
theorem pay_at (w : Vec Ideal S128x4096 .i32) (y : Vec Ideal S2048x512 .i32) (p : Vec Ideal S256x512 .f32) (r : Fin 256) (b : Fin 512) :
    k0_pay8 (F := Ideal) w y p (ix2 r b)
      = ((∑ d : Fin 4096, half (w (ix2 ⟨r.val / 2, by omega⟩ d)) (r.val % 2) * half (y (ix2 ⟨d.val / 2, by omega⟩ b)) (d.val % 2))
          * p (ix2 r b) : EReal) := by
  pointwise [k0_pay8, k0_pay7]
  refine congrArg (· * p (ix2 r b)) (Finset.sum_congr rfl fun d _ => ?_)
  rw [bitcast_32_16, bitcast_32_16]
  unfold half
  congr 3
  · exact Nat.mul_comm _ _
  · congr 1
    funext a; apply Fin.ext
    match a with
    | ⟨0, _⟩ => rfl
    | ⟨1, _⟩ => rfl
  · exact Nat.mul_comm _ _
  · congr 1
    funext a; apply Fin.ext
    match a with
    | ⟨0, _⟩ => rfl
    | ⟨1, _⟩ => rfl

/-- The whole block as one function of the input blocks. -/
def blk (y : Vec Ideal S2048x2048 .i32) (w : Vec Ideal S128x4096 .i32) (p : Vec Ideal S256x2048 .f32) : Vec Ideal S256x2048 .bf16 := fun j =>
  ((∑ d : Fin 4096, half (w (ix2 ⟨(j 0).val / 2, Nat.div_lt_of_lt_mul (j 0).isLt⟩ d)) ((j 0).val % 2)
      * half (y (ix2 ⟨d.val / 2, by omega⟩ (j 1))) (d.val % 2)) * p j : EReal)

/-- The strip of 512 columns that begins at column `n` holds the block's values there. -/
theorem strip (n : ℕ) (hy : ∀ a, (![0, n] : Fin 2 → ℕ) a + S2048x512.size a ≤ S2048x2048.size a)
    (hp : ∀ a, (![0, n] : Fin 2 → ℕ) a + S256x512.size a ≤ S256x2048.size a)
    (y : Vec Ideal S2048x2048 .i32) (w : Vec Ideal S128x4096 .i32) (p : Vec Ideal S256x2048 .f32) (x : S256x512.Idx) :
    k0_pay8 (F := Ideal) (View.ld w r0_0) (View.ld y (Rect.unit (s := S2048x2048) ![0, n] S2048x512.size hy))
        (View.ld p (Rect.unit (s := S256x2048) ![0, n] S256x512.size hp)) x
      = blk y w p ((Rect.unit (s := S256x2048) ![0, n] S256x512.size hp).emb x) := by
  have hx : x = ix2 (n0 := 256) (n1 := 512) (x 0) (x 1) := by
    funext d; match d with
    | ⟨0, _⟩ => rfl
    | ⟨1, _⟩ => rfl
  have h0 : (((Rect.unit (s := S256x2048) ![0, n] S256x512.size hp).emb x) 0).val = (x 0).val := by
    show 0 + 1 * (x 0).val = _; omega
  have h1 : (((Rect.unit (s := S256x2048) ![0, n] S256x512.size hp).emb x) 1).val = n + (x 1).val := by
    show n + 1 * (x 1).val = _; omega
  refine Eq.trans (congrArg _ hx) ((pay_at _ _ _ (x 0) (x 1)).trans ?_)
  rw [← hx]
  unfold blk
  refine congrArg (· * (p ((Rect.unit (s := S256x2048) ![0, n] S256x512.size hp).emb x) : EReal)) (Finset.sum_congr rfl fun d _ => ?_)
  refine congr (congrArg HMul.hMul (congr (congrArg half (congrArg w ?_)) (congrArg (· % 2) h0.symm)))
    (congrArg (fun v => half v (d.val % 2)) (congrArg y ?_))
  · funext a; apply Fin.ext
    match a with
    | ⟨0, _⟩ =>
      refine Eq.trans (b := (x 0).val / 2) ?_ (congrArg (· / 2) h0.symm)
      show 0 + 1 * ((x 0).val / 2) = _; omega
    | ⟨1, _⟩ => show 0 + 1 * d.val = d.val; omega
  · funext a; apply Fin.ext
    match a with
    | ⟨0, _⟩ => show 0 + 1 * (d.val / 2) = d.val / 2; omega
    | ⟨1, _⟩ => exact (show n + 1 * (x 1).val = n + (x 1).val by omega).trans h1.symm

/-- Four strips beside each other are the block. -/
theorem strips (y : Vec Ideal S2048x2048 .i32) (w : Vec Ideal S128x4096 .i32) (p : Vec Ideal S256x2048 .f32) :
    View.canon [⟨r0_8, k0_pay8 (F := Ideal) (View.ld w r0_0) (View.ld y r0_7) (View.ld p r0_8)⟩,
      ⟨r0_6, k0_pay8 (F := Ideal) (View.ld w r0_0) (View.ld y r0_5) (View.ld p r0_6)⟩,
      ⟨r0_4, k0_pay8 (F := Ideal) (View.ld w r0_0) (View.ld y r0_3) (View.ld p r0_4)⟩,
      ⟨r0_2, k0_pay8 (F := Ideal) (View.ld w r0_0) (View.ld y r0_1) (View.ld p r0_2)⟩] = blk y w p :=
  funext fun j => View.canon_apply_of_pieces (blk y w p) _
    (List.forall_mem_cons.mpr ⟨strip 1536 _ _ y w p, List.forall_mem_cons.mpr ⟨strip 1024 _ _ y w p,
      List.forall_mem_cons.mpr ⟨strip 512 _ _ y w p, List.forall_mem_cons.mpr ⟨strip 0 _ _ y w p, fun _ h => absurd h (List.not_mem_nil)⟩⟩⟩⟩)
    j (cover0_4 (F := Ideal) _ _ _ _ j)

theorem out4 (y : Vec Ideal S2048x2048 .i32) (w : Vec Ideal S128x4096 .i32) (p q : Vec Ideal S256x2048 .f32) :
    out0_4 (F := Ideal) y w p q = blk y w p := strips y w p

theorem out5 (y : Vec Ideal S2048x2048 .i32) (w : Vec Ideal S128x4096 .i32) (p q : Vec Ideal S256x2048 .f32) :
    out0_5 (F := Ideal) y w p q = blk y w q := strips y w q

variable (m : (ℓ : Loc nD τ sig) → Buf (Elt Ideal) ℓ)

/-- The argument arrays: the output's gradient and the transposed weights in words, and the two factors. -/
abbrev A0 (c : Dev nD) : Vec Ideal S2048x2048 .i32 := m ((c : Thread nD τ).loc main_arg0)
abbrev A1 (c : Dev nD) : Vec Ideal S1792x4096 .i32 := m ((c : Thread nD τ).loc main_arg1)
abbrev A2 (c : Dev nD) : Vec Ideal S3584x2048 .f32 := m ((c : Thread nD τ).loc main_arg2)
abbrev A3 (c : Dev nD) : Vec Ideal S3584x2048 .f32 := m ((c : Thread nD τ).loc main_arg3)

/-- The result array as one function of the argument arrays. -/
def G (y : Vec Ideal S2048x2048 .i32) (w : Vec Ideal S1792x4096 .i32) (p : Vec Ideal S3584x2048 .f32) : Vec Ideal S3584x2048 .bf16 := fun j =>
  ((∑ d : Fin 4096, half (w (ix2 ⟨(j 0).val / 2, Nat.div_lt_of_lt_mul (j 0).isLt⟩ d)) ((j 0).val % 2)
      * half (y (ix2 ⟨d.val / 2, by omega⟩ (j 1))) (d.val % 2)) * p j : EReal)

theorem lt14 (t : Fin cfg0.N) : t.val < 14 := lt_of_lt_of_eq t.isLt (show cfg0.N = 14 from N_0)

theorem idx0 : ∀ t : Fin cfg0.N, win0_0.index t (0 : Fin 2) = 0 ∧ win0_0.index t (1 : Fin 2) = 0 :=
  (by decide +kernel : ∀ t : Fin grid0.N, _)
theorem idx1 : ∀ t : Fin cfg0.N, win0_1.index t (0 : Fin 2) = t.val ∧ win0_1.index t (1 : Fin 2) = 0 :=
  (by decide +kernel : ∀ t : Fin grid0.N, _)
theorem idx2 : ∀ t : Fin cfg0.N, win0_2.index t (0 : Fin 2) = t.val ∧ win0_2.index t (1 : Fin 2) = 0 :=
  (by decide +kernel : ∀ t : Fin grid0.N, _)
theorem idx3 : ∀ t : Fin cfg0.N, win0_3.index t (0 : Fin 2) = t.val ∧ win0_3.index t (1 : Fin 2) = 0 :=
  (by decide +kernel : ∀ t : Fin grid0.N, _)
theorem idx4 : ∀ t : Fin cfg0.N, win0_4.index t (0 : Fin 2) = t.val ∧ win0_4.index t (1 : Fin 2) = 0 :=
  (by decide +kernel : ∀ t : Fin grid0.N, _)
theorem idx5 : ∀ t : Fin cfg0.N, win0_5.index t (0 : Fin 2) = t.val ∧ win0_5.index t (1 : Fin 2) = 0 :=
  (by decide +kernel : ∀ t : Fin grid0.N, _)

theorem iblk0_at (c : Dev nD) (t : Fin cfg0.N) (d n : Fin 2048) :
    iblk m c 0 t (ix2 (n0 := 2048) (n1 := 2048) d n) = A0 m c (ix2 (n0 := 2048) (n1 := 2048) d n) := by
  refine Eq.trans (congrFun (V_main_arg0 m c) _) (congrArg (A0 m c) ?_)
  obtain ⟨e0, e1⟩ := idx0 t
  funext a; apply Fin.ext
  match a with
  | ⟨0, _⟩ => show win0_0.index t (0 : Fin 2) * 2048 + 1 * d.val = d.val; omega
  | ⟨1, _⟩ => show win0_0.index t (1 : Fin 2) * 2048 + 1 * n.val = n.val; omega

theorem iblk1_at (c : Dev nD) (t : Fin cfg0.N) (r : Fin 128) (d : Fin 4096) :
    iblk m c 1 t (ix2 (n0 := 128) (n1 := 4096) r d)
      = A1 m c (ix2 (n0 := 1792) (n1 := 4096) ⟨128 * t.val + r.val, by have := lt14 t; omega⟩ d) := by
  refine Eq.trans (congrFun (V_main_arg1 m c) _) (congrArg (A1 m c) ?_)
  obtain ⟨e0, e1⟩ := idx1 t
  funext a; apply Fin.ext
  match a with
  | ⟨0, _⟩ => show win0_1.index t (0 : Fin 2) * 128 + 1 * r.val = 128 * t.val + r.val; omega
  | ⟨1, _⟩ => show win0_1.index t (1 : Fin 2) * 4096 + 1 * d.val = d.val; omega

/-- The block of point `t`, read off the whole array's function: rows `256 t` and on, all columns. -/
theorem blk_eq (c : Dev nD) (t : Fin cfg0.N) (p : Vec Ideal S3584x2048 .f32) (pb : Vec Ideal S256x2048 .f32) (e : S256x2048.Idx → S3584x2048.Idx)
    (he0 : ∀ j, (e j 0).val = 256 * t.val + (j 0).val) (he1 : ∀ j, (e j 1).val = (j 1).val) (hpb : ∀ j, pb j = p (e j)) (j : S256x2048.Idx) :
    blk (iblk m c 0 t) (iblk m c 1 t) pb j = G (A0 m c) (A1 m c) p (e j) := by
  unfold blk G
  rw [hpb j]
  refine congrArg (· * (p (e j) : EReal)) (Finset.sum_congr rfl fun d _ => ?_)
  refine congr (congrArg HMul.hMul (congr (congrArg half ((iblk1_at m c t _ d).trans (congrArg (A1 m c) ?_))) ?_))
    (congrArg (fun v => half v (d.val % 2)) ((iblk0_at m c t _ _).trans (congrArg (A0 m c) ?_)))
  · funext a; apply Fin.ext
    match a with
    | ⟨0, _⟩ =>
      show 128 * t.val + (j 0).val / 2 = (e j 0).val / 2
      have h := he0 j; omega
    | ⟨1, _⟩ => rfl
  · have h := he0 j; omega
  · funext a; apply Fin.ext
    match a with
    | ⟨0, _⟩ => rfl
    | ⟨1, _⟩ => exact (he1 j).symm

theorem flushed4_eq (c : Dev nD) (t : Fin cfg0.N) :
    (dats m 0 c).flushed 4 t = ((cfg0.win 4).blk t).view.read (Elt Ideal) (G (A0 m c) (A1 m c) (A2 m c)) := by
  rw [Value.flushed4, out4]
  obtain ⟨e0, e1⟩ := idx4 t
  obtain ⟨f0, f1⟩ := idx2 t
  funext j
  refine blk_eq m c t (A2 m c) (iblk m c 2 t) (((cfg0.win 4).blk t).view.emb) ?_ ?_ ?_ j
  · intro j; show win0_4.index t (0 : Fin 2) * 256 + 1 * (j 0).val = _; omega
  · intro j; show win0_4.index t (1 : Fin 2) * 2048 + 1 * (j 1).val = _; omega
  · intro j
    refine Eq.trans (congrFun (V_main_arg2 m c) _) (congrArg (A2 m c) ?_)
    funext a; apply Fin.ext
    match a with
    | ⟨0, _⟩ => show win0_2.index t (0 : Fin 2) * 256 + 1 * (j 0).val = win0_4.index t (0 : Fin 2) * 256 + 1 * (j 0).val; omega
    | ⟨1, _⟩ => show win0_2.index t (1 : Fin 2) * 2048 + 1 * (j 1).val = win0_4.index t (1 : Fin 2) * 2048 + 1 * (j 1).val; omega

theorem flushed5_eq (c : Dev nD) (t : Fin cfg0.N) :
    (dats m 0 c).flushed 5 t = ((cfg0.win 5).blk t).view.read (Elt Ideal) (G (A0 m c) (A1 m c) (A3 m c)) := by
  rw [Value.flushed5, out5]
  obtain ⟨e0, e1⟩ := idx5 t
  obtain ⟨f0, f1⟩ := idx3 t
  funext j
  refine blk_eq m c t (A3 m c) (iblk m c 3 t) (((cfg0.win 5).blk t).view.emb) ?_ ?_ ?_ j
  · intro j; show win0_5.index t (0 : Fin 2) * 256 + 1 * (j 0).val = _; omega
  · intro j; show win0_5.index t (1 : Fin 2) * 2048 + 1 * (j 1).val = _; omega
  · intro j
    refine Eq.trans (congrFun (V_main_arg3 m c) _) (congrArg (A3 m c) ?_)
    funext a; apply Fin.ext
    match a with
    | ⟨0, _⟩ => show win0_3.index t (0 : Fin 2) * 256 + 1 * (j 0).val = win0_5.index t (0 : Fin 2) * 256 + 1 * (j 0).val; omega
    | ⟨1, _⟩ => show win0_3.index t (1 : Fin 2) * 2048 + 1 * (j 1).val = win0_5.index t (1 : Fin 2) * 2048 + 1 * (j 1).val; omega

/-- The point whose block holds row `r`. -/
def point (i : S3584x2048.Idx) : Fin cfg0.N :=
  ⟨(i 0).val / 256, by rw [show cfg0.N = 14 from N_0]; exact Nat.div_lt_of_lt_mul (i 0).isLt⟩

theorem covered4 (i : S3584x2048.Idx) : ∃ t : Fin cfg0.N, (cfg0.win 4).flush t = true ∧ i ∈ ((cfg0.win 4).blk t).view.set :=
  ⟨point i, flush0_4 _, by
    have h := ((cfg0.win 4).blk (point i)).view.emb_mem_set (ix2 (n0 := 256) (n1 := 2048) ⟨(i 0).val % 256, Nat.mod_lt _ (by decide)⟩ (i 1))
    obtain ⟨e0, e1⟩ := idx4 (point i)
    have hp : (point i).val = (i 0).val / 256 := rfl
    have e : ((cfg0.win 4).blk (point i)).view.emb (ix2 (n0 := 256) (n1 := 2048) ⟨(i 0).val % 256, Nat.mod_lt _ (by decide)⟩ (i 1)) = i := by
      funext a; apply Fin.ext
      match a with
      | ⟨0, _⟩ => show win0_4.index (point i) (0 : Fin 2) * 256 + 1 * ((i 0).val % 256) = (i 0).val; omega
      | ⟨1, _⟩ => show win0_4.index (point i) (1 : Fin 2) * 2048 + 1 * (i 1).val = (i 1).val; omega
    rwa [e] at h⟩

theorem covered5 (i : S3584x2048.Idx) : ∃ t : Fin cfg0.N, (cfg0.win 5).flush t = true ∧ i ∈ ((cfg0.win 5).blk t).view.set :=
  ⟨point i, flush0_5 _, by
    have h := ((cfg0.win 5).blk (point i)).view.emb_mem_set (ix2 (n0 := 256) (n1 := 2048) ⟨(i 0).val % 256, Nat.mod_lt _ (by decide)⟩ (i 1))
    obtain ⟨e0, e1⟩ := idx5 (point i)
    have hp : (point i).val = (i 0).val / 256 := rfl
    have e : ((cfg0.win 5).blk (point i)).view.emb (ix2 (n0 := 256) (n1 := 2048) ⟨(i 0).val % 256, Nat.mod_lt _ (by decide)⟩ (i 1)) = i := by
      funext a; apply Fin.ext
      match a with
      | ⟨0, _⟩ => show win0_5.index (point i) (0 : Fin 2) * 256 + 1 * ((i 0).val % 256) = (i 0).val; omega
      | ⟨1, _⟩ => show win0_5.index (point i) (1 : Fin 2) * 2048 + 1 * (i 1).val = (i 1).val; omega
    rwa [e] at h⟩

theorem final4 (c : Dev nD) : (dats m 0 c).arrAt 4 cfg0.N = G (A0 m c) (A1 m c) (A2 m c) :=
  (dats m 0 c).arrAt_eq_of_cover 4 (G (A0 m c) (A1 m c) (A2 m c)) (fun t _ => flushed4_eq m c t) covered4

theorem final5 (c : Dev nD) : (dats m 0 c).arrAt 5 cfg0.N = G (A0 m c) (A1 m c) (A3 m c) :=
  (dats m 0 c).arrAt_eq_of_cover 5 (G (A0 m c) (A1 m c) (A3 m c)) (fun t _ => flushed5_eq m c t) covered5

end Cert.BackKer

end
-- ==== Proof.BackRef.lean ====
/- Hand-written, untrusted: the backward reference's result arrays, over the extended reals, and the claim that the
   kernel's are the same. -/
module

public import proofs.«01_k».proof.Defs
public import proofs.«01_k».proof.Proof.BackKer
public import proofs.«01_k».proof.Proof.Gen.BackReferenceIdeal.Run
public import Idealize.ShloMosaic.Lib.BitcastConvert
public import Idealize.ShloMosaic.Lib.Quiescent

@[expose] public section

noncomputable section

namespace Cert.BackRef

open Cert.BackReferenceIdeal Cert.BackReferenceIdeal.Gen Idealize.ShloMosaic Idealize.ShloMosaic.TcCoe Idealize.SL.Sem
open Cert.BackKer (half)

variable (m : (ℓ : Loc nD τ sig) → Buf (Elt Ideal) ℓ)

/-- The output's gradient as the host unpacks it: row `2d + h` is half `h` of word row `d`. -/
def dyOf (x : (⟨S2048x2048, .i32⟩ : BufTy).Contents (Elt Ideal)) : (⟨S4096x2048, .bf16⟩ : BufTy).Contents (Elt Ideal) :=
  shapeCast S4096x2048 (transpose S2048x2x2048 [0, 2, 1] (bitcastToFloat (F := Ideal) .bf16
    (Host.bitcastConvertNarrow S2048x2048x2 16 x splits_S2048x2048_w32_S2048x2048x2_w16))
    transposes_S2048x2048x2_S2048x2x2048_0_2_1) shapeCasts_S2048x2x2048_S4096x2048

/-- The transposed weights likewise. -/
def wOf (x : (⟨S1792x4096, .i32⟩ : BufTy).Contents (Elt Ideal)) : (⟨S3584x4096, .bf16⟩ : BufTy).Contents (Elt Ideal) :=
  shapeCast S3584x4096 (transpose S1792x2x4096 [0, 2, 1] (bitcastToFloat (F := Ideal) .bf16
    (Host.bitcastConvertNarrow S1792x4096x2 16 x splits_S1792x4096_w32_S1792x4096x2_w16))
    transposes_S1792x4096x2_S1792x2x4096_0_2_1) shapeCasts_S1792x2x4096_S3584x4096

/-- The reference's array: the product of the two, times a factor. -/
def prod (w : (⟨S3584x4096, .bf16⟩ : BufTy).Contents (Elt Ideal)) (y : (⟨S4096x2048, .bf16⟩ : BufTy).Contents (Elt Ideal))
    (p : (⟨S3584x2048, .f32⟩ : BufTy).Contents (Elt Ideal)) : (⟨S3584x2048, .bf16⟩ : BufTy).Contents (Elt Ideal) :=
  truncf (F := Ideal) .bf16 (mulf (Host.dotGeneral (φ₁ := .bf16) (φ₂ := .bf16) dot_S3584x4096_S4096x2048_S3584x2048_1_0_0_1_n_n none w y) p) bitsLt_bf16_f32

theorem dy_at (x : (⟨S2048x2048, .i32⟩ : BufTy).Contents (Elt Ideal)) (d : Fin 4096) (n : Fin 2048) :
    dyOf x (ix2 d n) = half (x (ix2 ⟨d.val / 2, by omega⟩ n)) (d.val % 2) := by
  pointwise [dyOf]
  unfold half
  congr 3
  funext a; apply Fin.ext
  match a with
  | ⟨0, _⟩ => rfl
  | ⟨1, _⟩ => rfl

theorem w_at (x : (⟨S1792x4096, .i32⟩ : BufTy).Contents (Elt Ideal)) (r : Fin 3584) (d : Fin 4096) :
    wOf x (ix2 r d) = half (x (ix2 ⟨r.val / 2, by omega⟩ d)) (r.val % 2) := by
  pointwise [wOf]
  unfold half
  congr 3
  funext a; apply Fin.ext
  match a with
  | ⟨0, _⟩ => rfl
  | ⟨1, _⟩ => rfl

theorem prod_at (w : (⟨S3584x4096, .bf16⟩ : BufTy).Contents (Elt Ideal)) (y : (⟨S4096x2048, .bf16⟩ : BufTy).Contents (Elt Ideal))
    (p : (⟨S3584x2048, .f32⟩ : BufTy).Contents (Elt Ideal)) (r : Fin 3584) (n : Fin 2048) :
    prod w y p (ix2 r n) = ((∑ d : Fin 4096, w (ix2 r d) * y (ix2 d n)) * p (ix2 r n) : EReal) := by
  pointwise [prod]

/-- The reference's array is the kernel's function of the argument arrays. -/
theorem prod_eq (y : (⟨S2048x2048, .i32⟩ : BufTy).Contents (Elt Ideal)) (w : (⟨S1792x4096, .i32⟩ : BufTy).Contents (Elt Ideal))
    (p : (⟨S3584x2048, .f32⟩ : BufTy).Contents (Elt Ideal)) : prod (wOf w) (dyOf y) p = BackKer.G y w p := by
  have key : ∀ (r : Fin 3584) (n : Fin 2048), prod (wOf w) (dyOf y) p (ix2 r n)
      = (BackKer.G y w p : (⟨S3584x2048, .bf16⟩ : BufTy).Contents (Elt Ideal)) (ix2 r n) := fun r n => by
    rw [prod_at]
    simp only [dy_at, w_at]
    rfl
  have key' : ∀ x : S3584x2048.Idx, prod (wOf w) (dyOf y) p x = (BackKer.G y w p : (⟨S3584x2048, .bf16⟩ : BufTy).Contents (Elt Ideal)) x := fun x => by
    have hx : x = ix2 (n0 := 3584) (n1 := 2048) (x 0) (x 1) := by
      funext d; match d with
      | ⟨0, _⟩ => rfl
      | ⟨1, _⟩ => rfl
    rw [hx]
    exact key (x 0) (x 1)
  exact funext key'

/-- The reference ends with its arguments unchanged and every counter at zero. -/
theorem frame (ρ : Dev nD → PrngReg) : θ_run (defs (F := Ideal)) (onTc (τ := τ) (main (F := Ideal))) ⟨m, fun _ => 0, ρ⟩ (fun r => (∀ c : Dev nD,
      r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3))
      ∧ r.2.sem = fun _ => 0) :=
  (θ_run defs _ _).mono (fun r h => ⟨fun c => (h c).2.2, sem_eq_zero_of_no_sems rfl r.2⟩) (Value.run (F := Ideal) m ρ)

/-- The backward kernel and its reference return the same two arrays. -/
theorem algebraic : Cert.algebraic_BackIdeal_BackReferenceIdeal := by
  intro m ρ m' ρ' _ hagree
  refine ⟨fun c => BackKer.G (BackKer.A0 m c) (BackKer.A1 m c) (BackKer.A2 m c),
    fun c => BackKer.G (BackKer.A0 m c) (BackKer.A1 m c) (BackKer.A3 m c), ?_, ?_⟩
  · exact (θ_run Cert.BackIdeal.defs _ _).mono
      (fun _ h c => ⟨(h c).1.trans (BackKer.final4 m c), (h c).2.1.trans (BackKer.final5 m c), (h c).2.2⟩)
      (Cert.BackIdeal.Value.run_blocks (F := Ideal) m ρ)
  · refine (θ_run Cert.BackReferenceIdeal.defs _ _).mono (fun _ h c => ?_) (Value.run (F := Ideal) m' ρ')
    obtain ⟨h0, h1, h2, h3⟩ := hagree c
    refine ⟨(h c).1.trans (Eq.trans (prod_eq (m' ((c : Thread nD τ).loc main_arg0)) (m' ((c : Thread nD τ).loc main_arg1)) (m' ((c : Thread nD τ).loc main_arg2))) ?_), (h c).2.1.trans (Eq.trans (prod_eq (m' ((c : Thread nD τ).loc main_arg0)) (m' ((c : Thread nD τ).loc main_arg1)) (m' ((c : Thread nD τ).loc main_arg3))) ?_), (h c).2.2⟩
    · exact congr (congr (congrArg BackKer.G h0) h1) h2
    · exact congr (congr (congrArg BackKer.G h0) h1) h3

end Cert.BackRef

end
-- ==== Proof.FrontPure.lean ====
/- Hand-written, untrusted: the payloads of the forward products read at one entry, over the extended reals. -/
module

public import proofs.«01_k».proof.Proof.Gen.FrontIdeal.Skeleton
public import proofs.«01_k».proof.Proof.Consts
public import Idealize.ShloMosaic.Lib.BitcastPair
public import Idealize.ShloMosaic.PureOps.Ideal
public import Idealize.ShloMosaic.Lib.Pointwise

@[expose] public section

noncomputable section

namespace Cert.FrontPure

open Cert.FrontIdeal Cert.FrontIdeal.Gen Idealize.ShloMosaic

/-- Half `h` of a word, read as a bf16 number. -/
def half (w : BitVec 32) (h : ℕ) : EReal := Ideal.ofBits .bf16 (w.extractLsb' (h * 16) 16)

/-- The activation of one entry: from the two products `g`, `u` and the token's scale `s`. -/
def act (g u s : EReal) : EReal :=
  g * s * (((1 / 2 : ℝ) : EReal) * Ideal.tanh (((1 / 2 : ℝ) : EReal) * (g * s)) + ((1 / 2 : ℝ) : EReal)) * (u * s)

section
variable {F : FTy → Type} [FloatOps F]

/-- One strip of 32 rows and 256 tokens of the activation: `off` is where the strip lies in the second product. -/
def strip (off : Fin 2 → Nat) (h : S256x512.Slices off S32x256) (xs : Vec F S1x256 .f32) (g : Vec F S32x256 .f32)
    (up : FVec F S256x512 .f32) : FVec F S32x256 .f32 :=
  have x : FVec F S32x256 .f32 := broadcastTo S32x256 xs broadcasts_S1x256_S32x256
  have gx : FVec F S32x256 .f32 := mulf g x
  have sg : FVec F S32x256 .f32 := addf (mulf (broadcast S32x256 (Scalar.ofBits .f32 0x3F000000#32))
    (tanh (mulf (broadcast S32x256 (Scalar.ofBits .f32 0x3F000000#32)) gx))) (broadcast S32x256 (Scalar.ofBits .f32 0x3F000000#32))
  mulf (mulf gx sg) (mulf (extractStridedSlice S32x256 off up h) x)

/-- Eight strips, one under the other, turned: tokens are rows. -/
def turn (v0 v1 v2 v3 v4 v5 v6 v7 : FVec F S32x256 .f32) : FVec F S256x256 .f32 := k0_pay70 v0 v1 v2 v3 v4 v5 v6 v7
end

theorem strip_at (c k : Nat) (hc : c + 32 ≤ 256) (hk : k + 256 ≤ 512) (h : S256x512.Slices ![c, k] S32x256) (xs : Vec Ideal S1x256 .f32)
    (g : Vec Ideal S32x256 .f32) (up : FVec Ideal S256x512 .f32) (a : Fin 32) (b : Fin 256) :
    strip (F := Ideal) ![c, k] h xs g up (ix2 a b)
      = act (g (ix2 a b)) (up (ix2 ⟨c + a.val, by omega⟩ ⟨k + b.val, by omega⟩)) (xs (ix2 0 b)) := by
  pointwise [strip]
  simp only [Consts.half_f32]
  rfl

theorem prod_at (w : Vec Ideal S128x4096 .i32) (x : Vec Ideal S512x4096 .fp8e4m3) (r : Fin 256) (b : Fin 512) :
    k0_pay8 (F := Ideal) w x (ix2 r b)
      = ∑ d : Fin 4096, half (w (ix2 ⟨r.val / 2, by omega⟩ d)) (r.val % 2) * x (ix2 b d) := by
  pointwise [k0_pay8]
  refine Finset.sum_congr rfl fun d _ => ?_
  rw [bitcast_32_16]
  unfold half
  congr 3
  · exact Nat.mul_comm _ _
  · congr 1
    funext a; apply Fin.ext
    match a with
    | ⟨0, _⟩ => rfl
    | ⟨1, _⟩ => rfl

theorem turn_at (f : Fin 256 → Fin 256 → EReal) (v0 v1 v2 v3 v4 v5 v6 v7 : FVec Ideal S32x256 .f32)
    (h0 : ∀ (a : Fin 32) (b : Fin 256), v0 (ix2 a b) = f ⟨0 + a.val, by omega⟩ b)
    (h1 : ∀ (a : Fin 32) (b : Fin 256), v1 (ix2 a b) = f ⟨32 + a.val, by omega⟩ b)
    (h2 : ∀ (a : Fin 32) (b : Fin 256), v2 (ix2 a b) = f ⟨64 + a.val, by omega⟩ b)
    (h3 : ∀ (a : Fin 32) (b : Fin 256), v3 (ix2 a b) = f ⟨96 + a.val, by omega⟩ b)
    (h4 : ∀ (a : Fin 32) (b : Fin 256), v4 (ix2 a b) = f ⟨128 + a.val, by omega⟩ b)
    (h5 : ∀ (a : Fin 32) (b : Fin 256), v5 (ix2 a b) = f ⟨160 + a.val, by omega⟩ b)
    (h6 : ∀ (a : Fin 32) (b : Fin 256), v6 (ix2 a b) = f ⟨192 + a.val, by omega⟩ b)
    (h7 : ∀ (a : Fin 32) (b : Fin 256), v7 (ix2 a b) = f ⟨224 + a.val, by omega⟩ b) (b r : Fin 256) :
    turn (F := Ideal) v0 v1 v2 v3 v4 v5 v6 v7 (ix2 b r) = f r b := by
  pointwise [turn, k0_pay70]
  split_ifs <;> simp only [h0, h1, h2, h3, h4, h5, h6, h7] <;> refine congrArg (f · b) (Fin.ext ?_) <;> simp only [] <;> omega

end Cert.FrontPure

end
-- ==== Proof.FrontLoads.lean ====
/- Hand-written, untrusted: what the forward products load from their buffers, and the block of activations that
   these loads give, over the extended reals. -/
module

public import proofs.«01_k».proof.Proof.FrontPure
public import proofs.«01_k».proof.Proof.Gen.FrontIdeal.Frame

@[expose] public section

set_option maxRecDepth 100000

noncomputable section

namespace Cert.FrontRun

open Cert.FrontIdeal Cert.FrontIdeal.Gen Idealize.ShloMosaic Idealize.ShloMosaic.TcCoe Idealize.SL.Sem FrontPure

theorem hz2 : (![0, 0] : Fin 2 → Nat) = fun _ => 0 := funext fun a => by match a with | ⟨0, _⟩ => rfl | ⟨1, _⟩ => rfl

/-- The product of row `r` of the packed weights `w` with token `t` of `x`. -/
def PR (w : Vec Ideal S128x4096 .i32) (x : Vec Ideal S2048x4096 .fp8e4m3) (r : Fin 256) (t : Fin 2048) : EReal :=
  ∑ d : Fin 4096, half (w (ix2 ⟨r.val / 2, by omega⟩ d)) (r.val % 2) * x (ix2 t d)

/-- The block of activations of one point: tokens are rows. -/
def blkA (wg wu : Vec Ideal S128x4096 .i32) (x : Vec Ideal S2048x4096 .fp8e4m3) (xs : Vec Ideal S1x2048 .f32) : Vec Ideal S2048x256 .f32 :=
  fun j => act (PR wg x (j 1) (j 0)) (PR wu x (j 1) (j 0)) (xs (ix2 0 (j 0)))

/-- The products of all rows with all tokens, as the accumulator holds them. -/
def acc (w : Vec Ideal S128x4096 .i32) (x : Vec Ideal S2048x4096 .fp8e4m3) : Vec Ideal S256x2048 .f32 := fun j => PR w x (j 0) (j 1)

theorem prod_load (o : Nat) (ho : o + 512 ≤ 2048) (w w' : Vec Ideal S128x4096 .i32) (hw : w' = w) (arg1 : Memref sig .tc .vmem S2048x4096 .fp8e4m3) (harg1 : arg1.IsWhole)
    (x0 : Vec Ideal S2048x4096 .fp8e4m3) (inb : ∀ a, (![o, 0] : Fin 2 → Nat) a + S512x4096.size a ≤ S2048x4096.size a)
    (r : Fin 256) (b : Fin 512) :
    k0_pay8 (F := Ideal) w'
      (View.readAt (Elt Ideal) arg1.view (Rect.unit (s := S2048x4096) ![o, 0] S512x4096.size inb).toLoadRect (harg1.unread x0)) (ix2 r b)
      = PR w x0 r ⟨o + b.val, by omega⟩ := by
  subst hw
  rw [prod_at, View.readAt_eq_ld, harg1.read_unread]
  refine Finset.sum_congr rfl fun d _ => ?_
  refine congrArg (_ * ·) (congrArg x0 (funext fun a => Fin.ext ?_))
  match a with
  | ⟨0, _⟩ => show o + 1 * b.val = o + b.val; omega
  | ⟨1, _⟩ => show 0 + 1 * d.val = d.val; omega

theorem xs_load (o : Nat) (ho : o + 256 ≤ 2048) (arg2 : Memref sig .tc .vmem S1x2048 .f32) (harg2 : arg2.IsWhole) (x1 : Vec Ideal S1x2048 .f32)
    (inb : ∀ a, (![0, o] : Fin 2 → Nat) a + S1x256.size a ≤ S1x2048.size a) (b : Fin 256) :
    View.readAt (Elt Ideal) arg2.view (Rect.unit (s := S1x2048) ![0, o] S1x256.size inb).toLoadRect (harg2.unread x1) (ix2 0 b)
      = x1 (ix2 0 ⟨o + b.val, by omega⟩) := by
  rw [View.readAt_eq_ld, harg2.read_unread]
  refine congrArg x1 (funext fun a => Fin.ext ?_)
  match a with
  | ⟨0, _⟩ => rfl
  | ⟨1, _⟩ => show o + 1 * b.val = o + b.val; omega

theorem acc_load (r o : Nat) (hr : r + 32 ≤ 256) (ho : o + 256 ≤ 2048) (arg11 : Memref sig .tc .vmem S256x2048 .f32)
    (L : List (View.Piece (Elt Ideal) S256x2048 .f32)) (w : Vec Ideal S128x4096 .i32) (x : Vec Ideal S2048x4096 .fp8e4m3) (hL : View.canon L = acc w x)
    (inb : ∀ a, (![r, o] : Fin 2 → Nat) a + S32x256.size a ≤ S256x2048.size a) (a : Fin 32) (b : Fin 256) :
    arg11.view.readCov L (Rect.unit (s := S256x2048) ![r, o] S32x256.size inb).toLoadRect (ix2 a b)
      = PR w x ⟨r + a.val, by omega⟩ ⟨o + b.val, by omega⟩ := by
  rw [View.readCov_eq_canon', hL]
  refine congrArg₂ (PR w x) (Fin.ext ?_) (Fin.ext ?_)
  · show r + 1 * a.val = r + a.val; omega
  · show o + 1 * b.val = o + b.val; omega

theorem block_load (o q k : Nat) (hq : o = q + k) (hk : k + 256 ≤ 512) (ho : q + 512 ≤ 2048)
    (arg1 : Memref sig .tc .vmem S2048x4096 .fp8e4m3) (harg1 : arg1.IsWhole)
    (arg2 : Memref sig .tc .vmem S1x2048 .f32) (harg2 : arg2.IsWhole) (arg11 : Memref sig .tc .vmem S256x2048 .f32)
    {L : List (View.Piece (Elt Ideal) S256x2048 .f32)} {wg wu wu' : Vec Ideal S128x4096 .i32} {x : Vec Ideal S2048x4096 .fp8e4m3}
    (hL : View.canon L = acc wg x) (hw : wu' = wu) (xs : Vec Ideal S1x2048 .f32)
    (ix : ∀ a, (![q, 0] : Fin 2 → Nat) a + S512x4096.size a ≤ S2048x4096.size a)
    (is : ∀ a, (![0, o] : Fin 2 → Nat) a + S1x256.size a ≤ S1x2048.size a)
    (i0 : ∀ a, (![0, o] : Fin 2 → Nat) a + S32x256.size a ≤ S256x2048.size a)
    (i1 : ∀ a, (![32, o] : Fin 2 → Nat) a + S32x256.size a ≤ S256x2048.size a)
    (i2 : ∀ a, (![64, o] : Fin 2 → Nat) a + S32x256.size a ≤ S256x2048.size a)
    (i3 : ∀ a, (![96, o] : Fin 2 → Nat) a + S32x256.size a ≤ S256x2048.size a)
    (i4 : ∀ a, (![128, o] : Fin 2 → Nat) a + S32x256.size a ≤ S256x2048.size a)
    (i5 : ∀ a, (![160, o] : Fin 2 → Nat) a + S32x256.size a ≤ S256x2048.size a)
    (i6 : ∀ a, (![192, o] : Fin 2 → Nat) a + S32x256.size a ≤ S256x2048.size a)
    (i7 : ∀ a, (![224, o] : Fin 2 → Nat) a + S32x256.size a ≤ S256x2048.size a)
    (h0 : S256x512.Slices ![0, k] S32x256) (h1 : S256x512.Slices ![32, k] S32x256) (h2 : S256x512.Slices ![64, k] S32x256)
    (h3 : S256x512.Slices ![96, k] S32x256) (h4 : S256x512.Slices ![128, k] S32x256) (h5 : S256x512.Slices ![160, k] S32x256)
    (h6 : S256x512.Slices ![192, k] S32x256) (h7 : S256x512.Slices ![224, k] S32x256)
    (io : ∀ a, (![o, 0] : Fin 2 → Nat) a + S256x256.size a ≤ S2048x256.size a) (y : S256x256.Idx) :
    let XS := View.readAt (Elt Ideal) arg2.view (Rect.unit (s := S1x2048) ![0, o] S1x256.size is).toLoadRect (harg2.unread xs)
    let UP := k0_pay8 (F := Ideal) wu'
      (View.readAt (Elt Ideal) arg1.view (Rect.unit (s := S2048x4096) ![q, 0] S512x4096.size ix).toLoadRect (harg1.unread x))
    turn (F := Ideal)
      (strip ![0, k] h0 XS (arg11.view.readCov L (Rect.unit (s := S256x2048) ![0, o] S32x256.size i0).toLoadRect) UP)
      (strip ![32, k] h1 XS (arg11.view.readCov L (Rect.unit (s := S256x2048) ![32, o] S32x256.size i1).toLoadRect) UP)
      (strip ![64, k] h2 XS (arg11.view.readCov L (Rect.unit (s := S256x2048) ![64, o] S32x256.size i2).toLoadRect) UP)
      (strip ![96, k] h3 XS (arg11.view.readCov L (Rect.unit (s := S256x2048) ![96, o] S32x256.size i3).toLoadRect) UP)
      (strip ![128, k] h4 XS (arg11.view.readCov L (Rect.unit (s := S256x2048) ![128, o] S32x256.size i4).toLoadRect) UP)
      (strip ![160, k] h5 XS (arg11.view.readCov L (Rect.unit (s := S256x2048) ![160, o] S32x256.size i5).toLoadRect) UP)
      (strip ![192, k] h6 XS (arg11.view.readCov L (Rect.unit (s := S256x2048) ![192, o] S32x256.size i6).toLoadRect) UP)
      (strip ![224, k] h7 XS (arg11.view.readCov L (Rect.unit (s := S256x2048) ![224, o] S32x256.size i7).toLoadRect) UP) y
      = blkA wg wu x xs ((Rect.unit (s := S2048x256) ![o, 0] S256x256.size io).emb y) := by
  intro XS UP
  have hX : ∀ b : Fin 256, XS (ix2 0 b) = xs (ix2 0 ⟨o + b.val, by omega⟩) := fun b => xs_load o (by omega) arg2 harg2 xs is b
  have hU : ∀ (r : Fin 256) (b : Fin 512), UP (ix2 r b) = PR wu x r ⟨q + b.val, by omega⟩ :=
    fun r b => prod_load q ho wu wu' hw arg1 harg1 x ix r b
  obtain ⟨f, hf, one⟩ : ∃ f : Fin 256 → Fin 256 → EReal,
      (∀ r b, f r b = act (PR wg x r ⟨o + b.val, by omega⟩) (PR wu x r ⟨o + b.val, by omega⟩) (xs (ix2 0 ⟨o + b.val, by omega⟩))) ∧
      ∀ (c : Nat) (hc : c + 32 ≤ 256) (h : S256x512.Slices ![c, k] S32x256)
        (inb : ∀ a, (![c, o] : Fin 2 → Nat) a + S32x256.size a ≤ S256x2048.size a) (a : Fin 32) (b : Fin 256),
        strip (F := Ideal) ![c, k] h XS (arg11.view.readCov L (Rect.unit (s := S256x2048) ![c, o] S32x256.size inb).toLoadRect) UP (ix2 a b)
          = f ⟨c + a.val, by omega⟩ b := by
    refine ⟨fun r b => act (PR wg x r ⟨o + b.val, by omega⟩) (PR wu x r ⟨o + b.val, by omega⟩) (xs (ix2 0 ⟨o + b.val, by omega⟩)),
      fun _ _ => rfl, fun c hc h inb a b => ?_⟩
    rw [strip_at c k hc hk, acc_load c o hc (by omega) arg11 L wg x hL inb a b, hX, hU]
    refine congrArg₂ (act _ · ·) (congrArg (PR wu x _) (Fin.ext ?_)) rfl
    show q + (k + b.val) = o + b.val
    omega
  obtain ⟨b, r, rfl⟩ : ∃ (b r : Fin 256), y = ix2 b r := ⟨y 0, y 1, funext fun a => by match a with | ⟨0, _⟩ => rfl | ⟨1, _⟩ => rfl⟩
  refine (turn_at f _ _ _ _ _ _ _ _ (one 0 (by omega) h0 i0) (one 32 (by omega) h1 i1) (one 64 (by omega) h2 i2) (one 96 (by omega) h3 i3)
    (one 128 (by omega) h4 i4) (one 160 (by omega) h5 i5) (one 192 (by omega) h6 i6) (one 224 (by omega) h7 i7) b r).trans ((hf r b).trans ?_)
  have e0 : (⟨o + b.val, by omega⟩ : Fin 2048) = (Rect.unit (s := S2048x256) ![o, 0] S256x256.size io).emb (ix2 b r) 0 :=
    Fin.ext (show o + b.val = o + 1 * b.val by omega)
  have e1 : r = (Rect.unit (s := S2048x256) ![o, 0] S256x256.size io).emb (ix2 b r) 1 :=
    Fin.ext (show r.val = 0 + 1 * r.val by omega)
  show act (PR wg x r ⟨o + b.val, _⟩) (PR wu x r ⟨o + b.val, _⟩) (xs (ix2 0 ⟨o + b.val, _⟩)) = act (PR wg x _ _) (PR wu x _ _) (xs (ix2 0 _))
  rw [← e0, ← e1]

end Cert.FrontRun

end
-- ==== Proof.FrontRun.lean ====
/- Hand-written, untrusted: the stores of one point of the forward products, after the first, are parts of one block of
   activations, over the extended reals. -/
module

public import proofs.«01_k».proof.Proof.FrontLoads

@[expose] public section

set_option maxRecDepth 100000

noncomputable section

namespace Cert.FrontRun

open Cert.FrontIdeal Cert.FrontIdeal.Gen Idealize.ShloMosaic Idealize.ShloMosaic.TcCoe Idealize.SL.Sem FrontPure

theorem acc_piece (o : Nat) (ho : o + 512 ≤ 2048) (arg9 : Memref sig .tc .vmem S128x4096 .i32) (harg9 : arg9.IsWhole)
    (arg1 : Memref sig .tc .vmem S2048x4096 .fp8e4m3) (harg1 : arg1.IsWhole) (xs0 : Vec Ideal S128x4096 .i32)
    (x0 : Vec Ideal S2048x4096 .fp8e4m3) (inb : ∀ a, (![o, 0] : Fin 2 → Nat) a + S512x4096.size a ≤ S2048x4096.size a)
    (ig : ∀ a, (![0, o] : Fin 2 → Nat) a + S256x512.size a ≤ S256x2048.size a) (y : S256x512.Idx) :
    k0_pay8 (F := Ideal)
      (View.readAt (Elt Ideal) arg9.view (Rect.unit (s := S128x4096) ![0, 0] S128x4096.size inb_S128x4096_S128x4096_0_0).toLoadRect (harg9.unread xs0))
      (View.readAt (Elt Ideal) arg1.view (Rect.unit (s := S2048x4096) ![o, 0] S512x4096.size inb).toLoadRect (harg1.unread x0)) y
      = acc xs0 x0 ((Rect.unit (s := S256x2048) ![0, o] S256x512.size ig).emb y) := by
  obtain ⟨r, b, rfl⟩ : ∃ (r : Fin 256) (b : Fin 512), y = ix2 r b := ⟨y 0, y 1, funext fun a => by match a with | ⟨0, _⟩ => rfl | ⟨1, _⟩ => rfl⟩
  refine (prod_load o ho xs0 _ ?_ arg1 harg1 x0 inb r b).trans ?_
  · rw [View.readAt_eq_ld, harg9.read_unread, View.ld_unit_zero hz2]
  · refine congrArg₂ (PR xs0 x0) (Fin.ext ?_) (Fin.ext ?_)
    · show r.val = 0 + 1 * r.val; omega
    · show o + b.val = o + 1 * b.val; omega

theorem cast_512 (v : FVec Ideal S256x512 .f32) : shapeCast S256x512 v shapeCasts_S256x512_S256x512 = v := shapeCast_self _ _

theorem acc_canon (c : Dev nD) (arg1 : Memref sig .tc .vmem S2048x4096 .fp8e4m3) (harg1 : arg1.IsWhole)
    (arg9 : Memref sig .tc .vmem S128x4096 .i32) (harg9 : arg9.IsWhole) (x0 : Vec Ideal S2048x4096 .fp8e4m3) (xs0 : Vec Ideal S128x4096 .i32) :
    View.canon (kernelRun0_B.sl.HS2_4 (F := Ideal) c arg1 harg1 arg9 harg9 x0 xs0) = acc xs0 x0 := by
  refine funext fun y => View.canon_apply_of_pieces (acc xs0 x0) _ ?_ y
    (View.cover_of_tiled (kernelRun0_B.sl.HS2_4 (F := Ideal) c arg1 harg1 arg9 harg9 x0 xs0) S256x512.size (by rfl) y)
  unfold kernelRun0_B.sl.HS2_4
  refine List.forall_mem_cons.mpr ⟨fun x => ?_, List.forall_mem_cons.mpr ⟨fun x => ?_, List.forall_mem_cons.mpr ⟨fun x => ?_,
    List.forall_mem_cons.mpr ⟨fun x => ?_, fun p hp => absurd hp List.not_mem_nil⟩⟩⟩⟩
  · exact (congrFun (cast_512 _) x).trans (acc_piece 1536 (by omega) arg9 harg9 arg1 harg1 xs0 x0 _ inb_S256x2048_S256x512_0_1536 x)
  · exact (congrFun (cast_512 _) x).trans (acc_piece 1024 (by omega) arg9 harg9 arg1 harg1 xs0 x0 _ inb_S256x2048_S256x512_0_1024 x)
  · exact (congrFun (cast_512 _) x).trans (acc_piece 512 (by omega) arg9 harg9 arg1 harg1 xs0 x0 _ inb_S256x2048_S256x512_0_512 x)
  · exact (congrFun (cast_512 _) x).trans (acc_piece 0 (by omega) arg9 harg9 arg1 harg1 xs0 x0 _ inb_S256x2048_S256x512_0_0 x)

theorem up_load (arg4 : Memref sig .tc .vmem S128x4096 .i32) (harg4 : arg4.IsWhole) (arg10 : Memref sig .tc .vmem S128x4096 .i32)
    (x3 : Vec Ideal S128x4096 .i32) (c : Dev nD) :
    kernelRun0_B.sl.v38 (F := Ideal) c arg4 harg4 arg10 x3 = x3 := by
  unfold kernelRun0_B.sl.v38 kernelRun0_B.sl.HS1_1
  refine (View.readCov_unit_zero arg10.view hz2 _ _).trans ?_
  rw [View.readAt_eq_ld, harg4.read_unread, View.ld_unit_zero hz2]
  exact shapeCast_self _ _

theorem pieces_B (c : Dev nD) (i : grid0.Coords) (arg1 : Memref sig .tc .vmem S2048x4096 .fp8e4m3) (harg1 : arg1.IsWhole) (arg2 : Memref sig .tc .vmem S1x2048 .f32) (harg2 : arg2.IsWhole) (arg3 : Memref sig .tc .vmem S128x4096 .i32) (harg3 : arg3.IsWhole) (arg4 : Memref sig .tc .vmem S128x4096 .i32) (harg4 : arg4.IsWhole) (arg5 : Memref sig .tc .vmem S2048x256 .f32) (harg5 : arg5.IsWhole) (arg6 : Memref sig .tc .vmem S2048x256 .bf16) (harg6 : arg6.IsWhole) (arg7 : Memref sig .tc .vmem S256x2048 .f32) (harg7 : arg7.IsWhole) (arg8 : Memref sig .tc .vmem S256x2048 .f32) (harg8 : arg8.IsWhole) (arg9 : Memref sig .tc .vmem S128x4096 .i32) (harg9 : arg9.IsWhole) (arg10 : Memref sig .tc .vmem S128x4096 .i32) (harg10 : arg10.IsWhole) (arg11 : Memref sig .tc .vmem S256x2048 .f32) (harg11 : arg11.IsWhole) (hc0 : ¬cond0_0 i) (hc1 : cond0_1 i)
    (x0 : Vec Ideal S2048x4096 .fp8e4m3) (x1 : Vec Ideal S1x2048 .f32) (x2 : Vec Ideal S128x4096 .i32) (x3 : Vec Ideal S128x4096 .i32) (xs0 : Vec Ideal S128x4096 .i32) :
    ∀ p ∈ (kernelRun0_B (F := Ideal) c i arg1 harg1 arg2 harg2 arg3 harg3 arg4 harg4 arg5 harg5 arg6 harg6 arg7 harg7 arg8 harg8 arg9 harg9 arg10 harg10 arg11 harg11 hc0 hc1 x0 x1 x2 x3 xs0).1, ∀ x, p.2 x = blkA xs0 x3 x0 x1 (p.1.emb x) := by
  have hL := acc_canon c arg1 harg1 arg9 harg9 x0 xs0
  have hw := up_load arg4 harg4 arg10 x3 c
  unfold kernelRun0_B
  dsimp only
  refine List.forall_mem_cons.mpr ⟨fun x => ?_, ?_⟩
  · exact block_load 1792 1536 256 rfl (by decide) (by decide) arg1 harg1 arg2 harg2 arg11 hL hw x1 _ _ _ _ _ _ _ _ _ _
      slices_S256x512_o0_256_S32x256 slices_S256x512_o32_256_S32x256 slices_S256x512_o64_256_S32x256 slices_S256x512_o96_256_S32x256 slices_S256x512_o128_256_S32x256 slices_S256x512_o160_256_S32x256 slices_S256x512_o192_256_S32x256 slices_S256x512_o224_256_S32x256
      inb_S2048x256_S256x256_1792_0 x
  refine List.forall_mem_cons.mpr ⟨fun x => ?_, ?_⟩
  · exact block_load 1536 1536 0 rfl (by decide) (by decide) arg1 harg1 arg2 harg2 arg11 hL hw x1 _ _ _ _ _ _ _ _ _ _
      slices_S256x512_o0_0_S32x256 slices_S256x512_o32_0_S32x256 slices_S256x512_o64_0_S32x256 slices_S256x512_o96_0_S32x256 slices_S256x512_o128_0_S32x256 slices_S256x512_o160_0_S32x256 slices_S256x512_o192_0_S32x256 slices_S256x512_o224_0_S32x256
      inb_S2048x256_S256x256_1536_0 x
  refine List.forall_mem_cons.mpr ⟨fun x => ?_, ?_⟩
  · exact block_load 1280 1024 256 rfl (by decide) (by decide) arg1 harg1 arg2 harg2 arg11 hL hw x1 _ _ _ _ _ _ _ _ _ _
      slices_S256x512_o0_256_S32x256 slices_S256x512_o32_256_S32x256 slices_S256x512_o64_256_S32x256 slices_S256x512_o96_256_S32x256 slices_S256x512_o128_256_S32x256 slices_S256x512_o160_256_S32x256 slices_S256x512_o192_256_S32x256 slices_S256x512_o224_256_S32x256
      inb_S2048x256_S256x256_1280_0 x
  refine List.forall_mem_cons.mpr ⟨fun x => ?_, ?_⟩
  · exact block_load 1024 1024 0 rfl (by decide) (by decide) arg1 harg1 arg2 harg2 arg11 hL hw x1 _ _ _ _ _ _ _ _ _ _
      slices_S256x512_o0_0_S32x256 slices_S256x512_o32_0_S32x256 slices_S256x512_o64_0_S32x256 slices_S256x512_o96_0_S32x256 slices_S256x512_o128_0_S32x256 slices_S256x512_o160_0_S32x256 slices_S256x512_o192_0_S32x256 slices_S256x512_o224_0_S32x256
      inb_S2048x256_S256x256_1024_0 x
  refine List.forall_mem_cons.mpr ⟨fun x => ?_, ?_⟩
  · exact block_load 768 512 256 rfl (by decide) (by decide) arg1 harg1 arg2 harg2 arg11 hL hw x1 _ _ _ _ _ _ _ _ _ _
      slices_S256x512_o0_256_S32x256 slices_S256x512_o32_256_S32x256 slices_S256x512_o64_256_S32x256 slices_S256x512_o96_256_S32x256 slices_S256x512_o128_256_S32x256 slices_S256x512_o160_256_S32x256 slices_S256x512_o192_256_S32x256 slices_S256x512_o224_256_S32x256
      inb_S2048x256_S256x256_768_0 x
  refine List.forall_mem_cons.mpr ⟨fun x => ?_, ?_⟩
  · exact block_load 512 512 0 rfl (by decide) (by decide) arg1 harg1 arg2 harg2 arg11 hL hw x1 _ _ _ _ _ _ _ _ _ _
      slices_S256x512_o0_0_S32x256 slices_S256x512_o32_0_S32x256 slices_S256x512_o64_0_S32x256 slices_S256x512_o96_0_S32x256 slices_S256x512_o128_0_S32x256 slices_S256x512_o160_0_S32x256 slices_S256x512_o192_0_S32x256 slices_S256x512_o224_0_S32x256
      inb_S2048x256_S256x256_512_0 x
  refine List.forall_mem_cons.mpr ⟨fun x => ?_, ?_⟩
  · exact block_load 256 0 256 rfl (by decide) (by decide) arg1 harg1 arg2 harg2 arg11 hL hw x1 _ _ _ _ _ _ _ _ _ _
      slices_S256x512_o0_256_S32x256 slices_S256x512_o32_256_S32x256 slices_S256x512_o64_256_S32x256 slices_S256x512_o96_256_S32x256 slices_S256x512_o128_256_S32x256 slices_S256x512_o160_256_S32x256 slices_S256x512_o192_256_S32x256 slices_S256x512_o224_256_S32x256
      inb_S2048x256_S256x256_256_0 x
  refine List.forall_mem_cons.mpr ⟨fun x => ?_, ?_⟩
  · exact block_load 0 0 0 rfl (by decide) (by decide) arg1 harg1 arg2 harg2 arg11 hL hw x1 _ _ _ _ _ _ _ _ _ _
      slices_S256x512_o0_0_S32x256 slices_S256x512_o32_0_S32x256 slices_S256x512_o64_0_S32x256 slices_S256x512_o96_0_S32x256 slices_S256x512_o128_0_S32x256 slices_S256x512_o160_0_S32x256 slices_S256x512_o192_0_S32x256 slices_S256x512_o224_0_S32x256
      inb_S2048x256_S256x256_0_0 x
  exact fun p hp => absurd hp List.not_mem_nil

end Cert.FrontRun

end
-- ==== Proof.FrontKer.lean ====
/- Hand-written, untrusted: what each point of the forward products leaves in its output block and in the weights that
   it carries over, and the result array, over the extended reals. -/
module

public import proofs.«01_k».proof.Proof.FrontRun
public import proofs.«01_k».proof.Proof.Gen.FrontIdeal.Value

@[expose] public section

set_option maxRecDepth 100000

noncomputable section

namespace Cert.FrontKer

open Cert.FrontIdeal Cert.FrontIdeal.Gen Idealize.ShloMosaic Idealize.ShloMosaic.TcCoe Idealize.SL.Sem FrontPure FrontRun

theorem out_B (c : Dev nD) (i : grid0.Coords) (arg1 : Memref sig .tc .vmem S2048x4096 .fp8e4m3) (harg1 : arg1.IsWhole) (arg2 : Memref sig .tc .vmem S1x2048 .f32) (harg2 : arg2.IsWhole) (arg3 : Memref sig .tc .vmem S128x4096 .i32) (harg3 : arg3.IsWhole) (arg4 : Memref sig .tc .vmem S128x4096 .i32) (harg4 : arg4.IsWhole) (arg5 : Memref sig .tc .vmem S2048x256 .f32) (harg5 : arg5.IsWhole) (arg6 : Memref sig .tc .vmem S2048x256 .bf16) (harg6 : arg6.IsWhole) (arg7 : Memref sig .tc .vmem S256x2048 .f32) (harg7 : arg7.IsWhole) (arg8 : Memref sig .tc .vmem S256x2048 .f32) (harg8 : arg8.IsWhole) (arg9 : Memref sig .tc .vmem S128x4096 .i32) (harg9 : arg9.IsWhole) (arg10 : Memref sig .tc .vmem S128x4096 .i32) (harg10 : arg10.IsWhole) (arg11 : Memref sig .tc .vmem S256x2048 .f32) (harg11 : arg11.IsWhole) (hc0 : ¬cond0_0 i) (hc1 : cond0_1 i)
    (x0 : Vec Ideal S2048x4096 .fp8e4m3) (x1 : Vec Ideal S1x2048 .f32) (x2 : Vec Ideal S128x4096 .i32) (x3 : Vec Ideal S128x4096 .i32) (xs0 : Vec Ideal S128x4096 .i32) :
    out0_B_4 (F := Ideal) c i arg1 harg1 arg2 harg2 arg3 harg3 arg4 harg4 arg5 harg5 arg6 harg6 arg7 harg7 arg8 harg8 arg9 harg9 arg10 harg10 arg11 harg11 hc0 hc1 x0 x1 x2 x3 xs0 = blkA xs0 x3 x0 x1 := by
  unfold out0_B_4
  rw [View.read_writes_junk_eq_canon]
  exact funext fun y => View.canon_apply_of_pieces _ _ (pieces_B c i arg1 harg1 arg2 harg2 arg3 harg3 arg4 harg4 arg5 harg5 arg6 harg6 arg7 harg7 arg8 harg8 arg9 harg9 arg10 harg10 arg11 harg11 hc0 hc1 x0 x1 x2 x3 xs0) y (cover0_B_4 c i arg1 harg1 arg2 harg2 arg3 harg3 arg4 harg4 arg5 harg5 arg6 harg6 arg7 harg7 arg8 harg8 arg9 harg9 arg10 harg10 arg11 harg11 hc0 hc1 x0 x1 x2 x3 xs0 y)

theorem sout_A (c : Dev nD) (i : grid0.Coords) (arg1 : Memref sig .tc .vmem S2048x4096 .fp8e4m3) (harg1 : arg1.IsWhole) (arg2 : Memref sig .tc .vmem S1x2048 .f32) (harg2 : arg2.IsWhole) (arg3 : Memref sig .tc .vmem S128x4096 .i32) (harg3 : arg3.IsWhole) (arg4 : Memref sig .tc .vmem S128x4096 .i32) (harg4 : arg4.IsWhole) (arg5 : Memref sig .tc .vmem S2048x256 .f32) (harg5 : arg5.IsWhole) (arg6 : Memref sig .tc .vmem S2048x256 .bf16) (harg6 : arg6.IsWhole) (arg7 : Memref sig .tc .vmem S256x2048 .f32) (harg7 : arg7.IsWhole) (arg8 : Memref sig .tc .vmem S256x2048 .f32) (harg8 : arg8.IsWhole) (arg9 : Memref sig .tc .vmem S128x4096 .i32) (harg9 : arg9.IsWhole) (arg10 : Memref sig .tc .vmem S128x4096 .i32) (harg10 : arg10.IsWhole) (arg11 : Memref sig .tc .vmem S256x2048 .f32) (harg11 : arg11.IsWhole) (hc0 : cond0_0 i) (hc1 : ¬cond0_1 i)
    (x0 : Vec Ideal S2048x4096 .fp8e4m3) (x1 : Vec Ideal S1x2048 .f32) (x2 : Vec Ideal S128x4096 .i32) (x3 : Vec Ideal S128x4096 .i32) :
    sout0_A_0 (F := Ideal) c i arg1 harg1 arg2 harg2 arg3 harg3 arg4 harg4 arg5 harg5 arg6 harg6 arg7 harg7 arg8 harg8 arg9 harg9 arg10 harg10 arg11 harg11 hc0 hc1 x0 x1 x2 x3 = x2 := by
  unfold sout0_A_0
  rw [View.read_writes_junk_eq_canon]
  have h : (kernelRun0_A (F := Ideal) c i arg1 harg1 arg2 harg2 arg3 harg3 arg4 harg4 arg5 harg5 arg6 harg6 arg7 harg7 arg8 harg8 arg9 harg9 arg10 harg10 arg11 harg11 hc0 hc1 x0 x1 x2 x3).2.2.2.2.1 = [⟨Rect.unit (s := S128x4096) ![0, 0] S128x4096.size inb_S128x4096_S128x4096_0_0,
      k0_pay1 (F := Ideal) (View.readAt (Elt Ideal) arg3.view (Rect.unit (s := S128x4096) ![0, 0] S128x4096.size inb_S128x4096_S128x4096_0_0).toLoadRect (harg3.unread x2))⟩] := rfl
  rw [h, View.readAt_eq_ld, harg3.read_unread, View.ld_unit_zero hz2]
  have e : k0_pay1 (F := Ideal) x2 = x2 := shapeCast_self _ _
  rw [e]
  exact View.canon_unit_zero (Val := Elt Ideal) hz2 inb_S128x4096_S128x4096_0_0 x2

theorem sout_B (c : Dev nD) (i : grid0.Coords) (arg1 : Memref sig .tc .vmem S2048x4096 .fp8e4m3) (harg1 : arg1.IsWhole) (arg2 : Memref sig .tc .vmem S1x2048 .f32) (harg2 : arg2.IsWhole) (arg3 : Memref sig .tc .vmem S128x4096 .i32) (harg3 : arg3.IsWhole) (arg4 : Memref sig .tc .vmem S128x4096 .i32) (harg4 : arg4.IsWhole) (arg5 : Memref sig .tc .vmem S2048x256 .f32) (harg5 : arg5.IsWhole) (arg6 : Memref sig .tc .vmem S2048x256 .bf16) (harg6 : arg6.IsWhole) (arg7 : Memref sig .tc .vmem S256x2048 .f32) (harg7 : arg7.IsWhole) (arg8 : Memref sig .tc .vmem S256x2048 .f32) (harg8 : arg8.IsWhole) (arg9 : Memref sig .tc .vmem S128x4096 .i32) (harg9 : arg9.IsWhole) (arg10 : Memref sig .tc .vmem S128x4096 .i32) (harg10 : arg10.IsWhole) (arg11 : Memref sig .tc .vmem S256x2048 .f32) (harg11 : arg11.IsWhole) (hc0 : ¬cond0_0 i) (hc1 : cond0_1 i)
    (x0 : Vec Ideal S2048x4096 .fp8e4m3) (x1 : Vec Ideal S1x2048 .f32) (x2 : Vec Ideal S128x4096 .i32) (x3 : Vec Ideal S128x4096 .i32) (xs0 : Vec Ideal S128x4096 .i32) :
    sout0_B_0 (F := Ideal) c i arg1 harg1 arg2 harg2 arg3 harg3 arg4 harg4 arg5 harg5 arg6 harg6 arg7 harg7 arg8 harg8 arg9 harg9 arg10 harg10 arg11 harg11 hc0 hc1 x0 x1 x2 x3 xs0 = x2 := by
  unfold sout0_B_0
  rw [View.read_writes_junk_eq_canon]
  have h : (kernelRun0_B (F := Ideal) c i arg1 harg1 arg2 harg2 arg3 harg3 arg4 harg4 arg5 harg5 arg6 harg6 arg7 harg7 arg8 harg8 arg9 harg9 arg10 harg10 arg11 harg11 hc0 hc1 x0 x1 x2 x3 xs0).2.2.2.2.1 = [⟨Rect.unit (s := S128x4096) ![0, 0] S128x4096.size inb_S128x4096_S128x4096_0_0,
      k0_pay2 (F := Ideal) (View.readAt (Elt Ideal) arg3.view (Rect.unit (s := S128x4096) ![0, 0] S128x4096.size inb_S128x4096_S128x4096_0_0).toLoadRect (harg3.unread x2))⟩] := rfl
  rw [h, View.readAt_eq_ld, harg3.read_unread, View.ld_unit_zero hz2]
  have e : k0_pay2 (F := Ideal) x2 = x2 := shapeCast_self _ _
  rw [e]
  exact View.canon_unit_zero (Val := Elt Ideal) hz2 inb_S128x4096_S128x4096_0_0 x2

variable (m : (ℓ : Loc nD τ sig) → Buf (Elt Ideal) ℓ)

theorem lt15 (t : Fin cfg0.N) : t.val < 15 := lt_of_lt_of_eq t.isLt (show cfg0.N = 15 from N_0)

/-- The weights carried from one point to the next are those of the point's own block. -/
theorem carried (c : Dev nD) (t : Fin cfg0.N) : (outsAt0 (F := Ideal) m c t.val t.isLt).2.2.2.2 = iblk m c 2 t := by
  have hl := lt15 t
  by_cases h1 : 1 ≤ t.val
  · rw [outsAt0_B m c t (by omega) h1]
    dsimp only
    exact sout_B ..
  · rw [outsAt0_A m c t (by omega) h1]
    dsimp only
    exact sout_A ..

/-- The argument arrays: tokens, their scales, and the packed weights of gate and up. -/
abbrev A0 (c : Dev nD) : Vec Ideal S2048x4096 .fp8e4m3 := m ((c : Thread nD τ).loc main_arg0)
abbrev A1 (c : Dev nD) : Vec Ideal S1x2048 .f32 := m ((c : Thread nD τ).loc main_arg1)
abbrev A2 (c : Dev nD) : Vec Ideal S1792x4096 .i32 := m ((c : Thread nD τ).loc main_arg2)
abbrev A3 (c : Dev nD) : Vec Ideal S1792x4096 .i32 := m ((c : Thread nD τ).loc main_arg3)

/-- The product of row `r` of the packed weights with token `t`. -/
def prod (w : Vec Ideal S1792x4096 .i32) (x : Vec Ideal S2048x4096 .fp8e4m3) (r : Fin 3584) (t : Fin 2048) : EReal :=
  ∑ d : Fin 4096, half (w (ix2 ⟨r.val / 2, by omega⟩ d)) (r.val % 2) * x (ix2 t d)

/-- The result array as one function of the argument arrays. -/
def G (x : Vec Ideal S2048x4096 .fp8e4m3) (xs : Vec Ideal S1x2048 .f32) (g u : Vec Ideal S1792x4096 .i32) : Vec Ideal S2048x3584 .f32 := fun j =>
  act (prod g x (j 1) (j 0)) (prod u x (j 1) (j 0)) (xs (ix2 0 (j 0)))

theorem idx0 : ∀ t : Fin cfg0.N, win0_0.index t (0 : Fin 2) = 0 ∧ win0_0.index t (1 : Fin 2) = 0 :=
  (by decide +kernel : ∀ t : Fin grid0.N, _)
theorem idx1 : ∀ t : Fin cfg0.N, win0_1.index t (0 : Fin 2) = 0 ∧ win0_1.index t (1 : Fin 2) = 0 :=
  (by decide +kernel : ∀ t : Fin grid0.N, _)
theorem idx2 : ∀ t : Fin cfg0.N, win0_2.index t (0 : Fin 2) = min t.val 13 ∧ win0_2.index t (1 : Fin 2) = 0 :=
  (by decide +kernel : ∀ t : Fin grid0.N, _)
theorem idx3 : ∀ t : Fin cfg0.N, win0_3.index t (0 : Fin 2) = t.val - 1 ∧ win0_3.index t (1 : Fin 2) = 0 :=
  (by decide +kernel : ∀ t : Fin grid0.N, _)
theorem idx4 : ∀ t : Fin cfg0.N, win0_4.index t (0 : Fin 2) = 0 ∧ win0_4.index t (1 : Fin 2) = t.val - 1 :=
  (by decide +kernel : ∀ t : Fin grid0.N, _)
theorem flush4 : ∀ t : Fin cfg0.N, (cfg0.win 4).flush t = true ↔ 1 ≤ t.val :=
  (by decide +kernel : ∀ t : Fin grid0.N, _)

theorem iblk0_at (c : Dev nD) (t : Fin cfg0.N) (n : Fin 2048) (d : Fin 4096) :
    iblk m c 0 t (ix2 (n0 := 2048) (n1 := 4096) n d) = A0 m c (ix2 (n0 := 2048) (n1 := 4096) n d) := by
  refine Eq.trans (congrFun (V_main_arg0 m c) _) (congrArg (A0 m c) ?_)
  obtain ⟨e0, e1⟩ := idx0 t
  funext a; apply Fin.ext
  match a with
  | ⟨0, _⟩ => show win0_0.index t (0 : Fin 2) * 2048 + 1 * n.val = n.val; omega
  | ⟨1, _⟩ => show win0_0.index t (1 : Fin 2) * 4096 + 1 * d.val = d.val; omega

theorem iblk1_at (c : Dev nD) (t : Fin cfg0.N) (n : Fin 2048) :
    iblk m c 1 t (ix2 (n0 := 1) (n1 := 2048) 0 n) = A1 m c (ix2 (n0 := 1) (n1 := 2048) 0 n) := by
  refine Eq.trans (congrFun (V_main_arg1 m c) _) (congrArg (A1 m c) ?_)
  obtain ⟨e0, e1⟩ := idx1 t
  funext a; apply Fin.ext
  match a with
  | ⟨0, _⟩ => show win0_1.index t (0 : Fin 2) * 1 + 1 * 0 = 0; omega
  | ⟨1, _⟩ => show win0_1.index t (1 : Fin 2) * 2048 + 1 * n.val = n.val; omega

theorem iblk2_at (c : Dev nD) (t : Fin cfg0.N) (b : Nat) (hb : b < 14) (ht : min t.val 13 = b) (r : Fin 128) (d : Fin 4096) :
    iblk m c 2 t (ix2 (n0 := 128) (n1 := 4096) r d) = A2 m c (ix2 (n0 := 1792) (n1 := 4096) ⟨128 * b + r.val, by omega⟩ d) := by
  refine Eq.trans (congrFun (V_main_arg2 m c) _) (congrArg (A2 m c) ?_)
  obtain ⟨e0, e1⟩ := idx2 t
  funext a; apply Fin.ext
  match a with
  | ⟨0, _⟩ => show win0_2.index t (0 : Fin 2) * 128 + 1 * r.val = 128 * b + r.val; omega
  | ⟨1, _⟩ => show win0_2.index t (1 : Fin 2) * 4096 + 1 * d.val = d.val; omega

theorem iblk3_at (c : Dev nD) (t : Fin cfg0.N) (b : Nat) (hb : b < 14) (ht : t.val - 1 = b) (r : Fin 128) (d : Fin 4096) :
    iblk m c 3 t (ix2 (n0 := 128) (n1 := 4096) r d) = A3 m c (ix2 (n0 := 1792) (n1 := 4096) ⟨128 * b + r.val, by omega⟩ d) := by
  refine Eq.trans (congrFun (V_main_arg3 m c) _) (congrArg (A3 m c) ?_)
  obtain ⟨e0, e1⟩ := idx3 t
  funext a; apply Fin.ext
  match a with
  | ⟨0, _⟩ => show win0_3.index t (0 : Fin 2) * 128 + 1 * r.val = 128 * b + r.val; omega
  | ⟨1, _⟩ => show win0_3.index t (1 : Fin 2) * 4096 + 1 * d.val = d.val; omega

/-- A product of one block of 256 rows is that product of the whole arrays. -/
theorem prod_block (b : Nat) (hb : b < 14) (w : Vec Ideal S1792x4096 .i32) (wb : Vec Ideal S128x4096 .i32) (x xb : Vec Ideal S2048x4096 .fp8e4m3)
    (hw : ∀ (r : Fin 128) (d : Fin 4096), wb (ix2 r d) = w (ix2 ⟨128 * b + r.val, by omega⟩ d))
    (hx : ∀ (n : Fin 2048) (d : Fin 4096), xb (ix2 n d) = x (ix2 n d)) (r : Fin 256) (n : Fin 2048) (R : Fin 3584) (N : Fin 2048)
    (hR : R.val = 256 * b + r.val) (hN : N = n) : PR wb xb r n = prod w x R N := by
  subst hN
  unfold PR prod
  refine Finset.sum_congr rfl fun d _ => ?_
  rw [hw, hx]
  have e1 : r.val % 2 = R.val % 2 := by omega
  have e2 : (⟨128 * b + r.val / 2, by omega⟩ : Fin 1792) = ⟨R.val / 2, by omega⟩ := Fin.ext (show 128 * b + r.val / 2 = R.val / 2 by omega)
  rw [e1, e2]

theorem flushed4_eq (c : Dev nD) (t : Fin cfg0.N) (h1 : 1 ≤ t.val) :
    (dats m 0 c).flushed 4 t = ((cfg0.win 4).blk t).view.read (Elt Ideal) (G (A0 m c) (A1 m c) (A2 m c) (A3 m c)) := by
  have hl := lt15 t
  rw [Value.flushed4_B m c t (by omega) h1, out_B,
    carried m c ⟨t.val - 1, Nat.lt_of_le_of_lt (Nat.sub_le _ _) t.isLt⟩]
  obtain ⟨e0, e1⟩ := idx4 t
  funext j
  have hj0 : (((cfg0.win 4).blk t).view.emb j 0).val = (j 0).val := by
    show win0_4.index t (0 : Fin 2) * 2048 + 1 * (j 0).val = _; omega
  have hj1 : (((cfg0.win 4).blk t).view.emb j 1).val = 256 * (t.val - 1) + (j 1).val := by
    show win0_4.index t (1 : Fin 2) * 256 + 1 * (j 1).val = _; omega
  have hp2 := iblk2_at m c ⟨t.val - 1, Nat.lt_of_le_of_lt (Nat.sub_le _ _) t.isLt⟩ (t.val - 1) (by omega) (by simp only []; omega)
  have hp3 := iblk3_at m c t (t.val - 1) (by omega) rfl
  have hg := prod_block (t.val - 1) (by omega) (A2 m c) _ (A0 m c) (iblk m c 0 t) hp2 (iblk0_at m c t) (j 1) (j 0)
    (((cfg0.win 4).blk t).view.emb j 1) (((cfg0.win 4).blk t).view.emb j 0) hj1 (Fin.ext hj0)
  have hu := prod_block (t.val - 1) (by omega) (A3 m c) _ (A0 m c) (iblk m c 0 t) hp3 (iblk0_at m c t) (j 1) (j 0)
    (((cfg0.win 4).blk t).view.emb j 1) (((cfg0.win 4).blk t).view.emb j 0) hj1 (Fin.ext hj0)
  have hs : iblk m c 1 t (ix2 (n0 := 1) (n1 := 2048) 0 (j 0)) = A1 m c (ix2 (n0 := 1) (n1 := 2048) 0 (((cfg0.win 4).blk t).view.emb j 0)) :=
    (iblk1_at m c t (j 0)).trans (congrArg (fun z => A1 m c (ix2 (n0 := 1) (n1 := 2048) 0 z)) (Fin.ext hj0.symm))
  show act (PR (iblk m c 2 ⟨t.val - 1, Nat.lt_of_le_of_lt (Nat.sub_le _ _) t.isLt⟩) (iblk m c 0 t) (j 1) (j 0))
      (PR (iblk m c 3 t) (iblk m c 0 t) (j 1) (j 0)) (iblk m c 1 t (ix2 (n0 := 1) (n1 := 2048) 0 (j 0)))
    = act (prod (A2 m c) (A0 m c) (((cfg0.win 4).blk t).view.emb j 1) (((cfg0.win 4).blk t).view.emb j 0))
      (prod (A3 m c) (A0 m c) (((cfg0.win 4).blk t).view.emb j 1) (((cfg0.win 4).blk t).view.emb j 0))
      (A1 m c (ix2 (n0 := 1) (n1 := 2048) 0 (((cfg0.win 4).blk t).view.emb j 0)))
  exact congr (congr (congrArg act hg) hu) hs

/-- The point whose block holds column `i 1`. -/
def point (i : S2048x3584.Idx) : Fin cfg0.N :=
  ⟨(i 1).val / 256 + 1, by
    rw [show cfg0.N = 15 from N_0]
    exact Nat.succ_lt_succ (Nat.div_lt_of_lt_mul (i 1).isLt)⟩

theorem covered4 (i : S2048x3584.Idx) : ∃ t : Fin cfg0.N, (cfg0.win 4).flush t = true ∧ i ∈ ((cfg0.win 4).blk t).view.set :=
  ⟨point i, (flush4 _).mpr (Nat.succ_le_succ (Nat.zero_le _)), by
    have h := ((cfg0.win 4).blk (point i)).view.emb_mem_set (ix2 (n0 := 2048) (n1 := 256) (i 0) ⟨(i 1).val % 256, Nat.mod_lt _ (by decide)⟩)
    obtain ⟨e0, e1⟩ := idx4 (point i)
    have hp : (point i).val = (i 1).val / 256 + 1 := rfl
    have e : ((cfg0.win 4).blk (point i)).view.emb (ix2 (n0 := 2048) (n1 := 256) (i 0) ⟨(i 1).val % 256, Nat.mod_lt _ (by decide)⟩) = i := by
      funext a; apply Fin.ext
      match a with
      | ⟨0, _⟩ => show win0_4.index (point i) (0 : Fin 2) * 2048 + 1 * (i 0).val = (i 0).val; omega
      | ⟨1, _⟩ => show win0_4.index (point i) (1 : Fin 2) * 256 + 1 * ((i 1).val % 256) = (i 1).val; omega
    rwa [e] at h⟩

theorem final4 (c : Dev nD) : (dats m 0 c).arrAt 4 cfg0.N = G (A0 m c) (A1 m c) (A2 m c) (A3 m c) :=
  (dats m 0 c).arrAt_eq_of_cover 4 (G (A0 m c) (A1 m c) (A2 m c) (A3 m c)) (fun t ht => flushed4_eq m c t ((flush4 t).mp ht)) covered4

end Cert.FrontKer

end
-- ==== Proof.FrontRef.lean ====
/- Hand-written, untrusted: the plain forward products and their activation, entry by entry, and that the kernel returns
   the same array, over the extended reals. -/
module

public import proofs.«01_k».proof.Defs
public import proofs.«01_k».proof.Proof.FrontKer
public import proofs.«01_k».proof.Proof.Scalar
public import proofs.«01_k».proof.Proof.Gen.FrontReferenceIdeal.Value
public import Idealize.ShloMosaic.Lib.Pipeline.FrameTail
public import Idealize.ShloMosaic.Lib.BitcastConvert

@[expose] public section

noncomputable section

namespace Cert.FrontRef

open Cert.FrontReferenceIdeal Cert.FrontReferenceIdeal.Gen Cert.FrontReferenceIdeal.Value Idealize.ShloMosaic Idealize.ShloMosaic.TcCoe Idealize.SL.Sem FrontPure

theorem hz : (![0, 0] : Fin 2 → Nat) = fun _ => 0 := funext fun a => by match a with | ⟨0, _⟩ => rfl | ⟨1, _⟩ => rfl

/-- The body's payload, from the whole arrays. -/
def pay (x : Vec Ideal S2048x4096 .fp8e4m3) (s : Vec Ideal S2048x1 .f32) (g u : Vec Ideal S3584x4096 .bf16) : Vec Ideal S2048x3584 .f32 :=
  k0_pay1 (F := Ideal) x g s u s

theorem out_eq (x : Vec Ideal S2048x4096 .fp8e4m3) (s : Vec Ideal S2048x1 .f32) (g u : Vec Ideal S3584x4096 .bf16) :
    out0_4 (F := Ideal) x s g u = pay x s g u := by
  have e0 : View.ld x r0_0 = x := View.ld_unit_zero hz _ x
  have e1 : View.ld s r0_2 = s := View.ld_unit_zero hz _ s
  have e2 : View.ld g r0_1 = g := View.ld_unit_zero hz _ g
  have e3 : View.ld u r0_1 = u := View.ld_unit_zero hz _ u
  unfold out0_4 pay
  rw [e0, e1, e2, e3]
  exact View.canon_unit_zero (Val := Elt Ideal) hz _ _

variable (m : (ℓ : Loc nD τ sig) → Buf (Elt Ideal) ℓ)

theorem idx0 : ∀ t : Fin cfg0.N, win0_0.index t (0 : Fin 2) = 0 ∧ win0_0.index t (1 : Fin 2) = 0 :=
  (by decide +kernel : ∀ t : Fin grid0.N, _)

theorem emb0 (t : Fin cfg0.N) (j : S2048x4096.Idx) : ((cfg0.win 0).blk t).view.emb j = j := by
  obtain ⟨e0, e1⟩ := idx0 t
  funext a; apply Fin.ext
  match a with
  | ⟨0, _⟩ => show win0_0.index t (0 : Fin 2) * 2048 + 1 * (j 0).val = (j 0).val; omega
  | ⟨1, _⟩ => show win0_0.index t (1 : Fin 2) * 4096 + 1 * (j 1).val = (j 1).val; omega

theorem iblk0_eq (c : Dev nD) (t : Fin cfg0.N) : iblk m c 0 t = V m c main_arg0 := by
  funext j; show V m c main_arg0 (((cfg0.win 0).blk t).view.emb j) = V m c main_arg0 j; rw [emb0]

theorem idx1 : ∀ t : Fin cfg0.N, win0_1.index t (0 : Fin 2) = 0 ∧ win0_1.index t (1 : Fin 2) = 0 :=
  (by decide +kernel : ∀ t : Fin grid0.N, _)

theorem emb1 (t : Fin cfg0.N) (j : S2048x1.Idx) : ((cfg0.win 1).blk t).view.emb j = j := by
  obtain ⟨e0, e1⟩ := idx1 t
  funext a; apply Fin.ext
  match a with
  | ⟨0, _⟩ => show win0_1.index t (0 : Fin 2) * 2048 + 1 * (j 0).val = (j 0).val; omega
  | ⟨1, _⟩ => show win0_1.index t (1 : Fin 2) * 1 + 1 * (j 1).val = (j 1).val; omega

theorem iblk1_eq (c : Dev nD) (t : Fin cfg0.N) : iblk m c 1 t = V m c main_v6 := by
  funext j; show V m c main_v6 (((cfg0.win 1).blk t).view.emb j) = V m c main_v6 j; rw [emb1]

theorem idx2 : ∀ t : Fin cfg0.N, win0_2.index t (0 : Fin 2) = 0 ∧ win0_2.index t (1 : Fin 2) = 0 :=
  (by decide +kernel : ∀ t : Fin grid0.N, _)

theorem emb2 (t : Fin cfg0.N) (j : S3584x4096.Idx) : ((cfg0.win 2).blk t).view.emb j = j := by
  obtain ⟨e0, e1⟩ := idx2 t
  funext a; apply Fin.ext
  match a with
  | ⟨0, _⟩ => show win0_2.index t (0 : Fin 2) * 3584 + 1 * (j 0).val = (j 0).val; omega
  | ⟨1, _⟩ => show win0_2.index t (1 : Fin 2) * 4096 + 1 * (j 1).val = (j 1).val; omega

theorem iblk2_eq (c : Dev nD) (t : Fin cfg0.N) : iblk m c 2 t = V m c main_v2 := by
  funext j; show V m c main_v2 (((cfg0.win 2).blk t).view.emb j) = V m c main_v2 j; rw [emb2]

theorem idx3 : ∀ t : Fin cfg0.N, win0_3.index t (0 : Fin 2) = 0 ∧ win0_3.index t (1 : Fin 2) = 0 :=
  (by decide +kernel : ∀ t : Fin grid0.N, _)

theorem emb3 (t : Fin cfg0.N) (j : S3584x4096.Idx) : ((cfg0.win 3).blk t).view.emb j = j := by
  obtain ⟨e0, e1⟩ := idx3 t
  funext a; apply Fin.ext
  match a with
  | ⟨0, _⟩ => show win0_3.index t (0 : Fin 2) * 3584 + 1 * (j 0).val = (j 0).val; omega
  | ⟨1, _⟩ => show win0_3.index t (1 : Fin 2) * 4096 + 1 * (j 1).val = (j 1).val; omega

theorem iblk3_eq (c : Dev nD) (t : Fin cfg0.N) : iblk m c 3 t = V m c main_v5 := by
  funext j; show V m c main_v5 (((cfg0.win 3).blk t).view.emb j) = V m c main_v5 j; rw [emb3]

theorem idx4 : ∀ t : Fin cfg0.N, win0_4.index t (0 : Fin 2) = 0 ∧ win0_4.index t (1 : Fin 2) = 0 :=
  (by decide +kernel : ∀ t : Fin grid0.N, _)

theorem emb4 (t : Fin cfg0.N) (j : S2048x3584.Idx) : ((cfg0.win 4).blk t).view.emb j = j := by
  obtain ⟨e0, e1⟩ := idx4 t
  funext a; apply Fin.ext
  match a with
  | ⟨0, _⟩ => show win0_4.index t (0 : Fin 2) * 2048 + 1 * (j 0).val = (j 0).val; omega
  | ⟨1, _⟩ => show win0_4.index t (1 : Fin 2) * 3584 + 1 * (j 1).val = (j 1).val; omega

theorem cut4_eq (t : Fin cfg0.N) (X : Vec Ideal S2048x3584 .f32) :
    (cfg0.win 4).cut (grid0.coords t) X = ((cfg0.win 4).blk t).view.read (Elt Ideal) X := by
  funext j
  show X j = X (((cfg0.win 4).blk t).view.emb j)
  rw [emb4]

theorem flushed4_eq (c : Dev nD) (t : Fin cfg0.N) :
    (dats m 0 c).flushed 4 t
      = ((cfg0.win 4).blk t).view.read (Elt Ideal) (pay (V m c main_arg0) (V m c main_v6) (V m c main_v2) (V m c main_v5)) := by
  rw [flushed4, out_eq, iblk0_eq, iblk1_eq, iblk2_eq, iblk3_eq]
  exact cut4_eq t _

theorem covered4 (i : S2048x3584.Idx) : ∃ t : Fin cfg0.N, (cfg0.win 4).flush t = true ∧ i ∈ ((cfg0.win 4).blk t).view.set :=
  ⟨(⟨0, by decide⟩ : Fin cfg0.N), flush0_4 _, by
    have h := ((cfg0.win 4).blk (⟨0, by decide⟩ : Fin cfg0.N)).view.emb_mem_set i; rwa [emb4] at h⟩

/-- The weights as the host unpacks them: row `2r + p` is half `p` of word row `r`. -/
def wOf (x : (⟨S1792x4096, .i32⟩ : BufTy).Contents (Elt Ideal)) : (⟨S3584x4096, .bf16⟩ : BufTy).Contents (Elt Ideal) :=
  shapeCast S3584x4096 (transpose S1792x2x4096 [0, 2, 1] (bitcastToFloat (F := Ideal) .bf16
    (Host.bitcastConvertNarrow S1792x4096x2 16 x splits_S1792x4096_w32_S1792x4096x2_w16))
    transposes_S1792x4096x2_S1792x2x4096_0_2_1) shapeCasts_S1792x2x4096_S3584x4096

/-- The scales of the tokens as a column. -/
def sOf (x : (⟨S1x2048, .f32⟩ : BufTy).Contents (Elt Ideal)) : (⟨S2048x1, .f32⟩ : BufTy).Contents (Elt Ideal) :=
  transpose S2048x1 [1, 0] x transposes_S1x2048_S2048x1_1_0

theorem V_main_v2 (c : Dev nD) : V m c main_v2 = wOf (m ((c : Thread nD τ).loc main_arg2)) := by
  show StableHlo.after hostOps0 _ (Proc.devRef .tc main_v2) = _
  unfold_abbrev_sides
  after_results
  rfl

theorem V_main_v5 (c : Dev nD) : V m c main_v5 = wOf (m ((c : Thread nD τ).loc main_arg3)) := by
  show StableHlo.after hostOps0 _ (Proc.devRef .tc main_v5) = _
  unfold_abbrev_sides
  after_results
  rfl

theorem V_main_v6 (c : Dev nD) : V m c main_v6 = sOf (m ((c : Thread nD τ).loc main_arg1)) := by
  show StableHlo.after hostOps0 _ (Proc.devRef .tc main_v6) = _
  unfold_abbrev_sides
  after_results
  rfl

theorem final4 (c : Dev nD) : (dats m 0 c).arrAt 4 cfg0.N
    = pay (m ((c : Thread nD τ).loc main_arg0)) (sOf (m ((c : Thread nD τ).loc main_arg1))) (wOf (m ((c : Thread nD τ).loc main_arg2)))
        (wOf (m ((c : Thread nD τ).loc main_arg3))) :=
  ((dats m 0 c).arrAt_eq_of_cover 4 (pay (V m c main_arg0) (V m c main_v6) (V m c main_v2) (V m c main_v5)) (fun t _ => flushed4_eq m c t) covered4).trans
    (by rw [V_main_arg0, V_main_v2, V_main_v5, V_main_v6])

theorem s_at (x : (⟨S1x2048, .f32⟩ : BufTy).Contents (Elt Ideal)) (n : Fin 2048) : sOf x (ix2 n 0) = x (ix2 0 n) := by
  pointwise [sOf]

theorem w_at (x : (⟨S1792x4096, .i32⟩ : BufTy).Contents (Elt Ideal)) (r : Fin 3584) (d : Fin 4096) :
    wOf x (ix2 r d) = half (x (ix2 ⟨r.val / 2, by omega⟩ d)) (r.val % 2) := by
  pointwise [wOf]
  unfold half
  congr 3
  funext a; apply Fin.ext
  match a with
  | ⟨0, _⟩ => rfl
  | ⟨1, _⟩ => rfl

/-- The activation of one entry, written with the exponential. -/
def actRef (g u : EReal) : EReal := g * Ideal.div 1 (1 + Ideal.exp (-g)) * u

theorem pay_at (x : Vec Ideal S2048x4096 .fp8e4m3) (s : Vec Ideal S2048x1 .f32) (g u : Vec Ideal S3584x4096 .bf16) (n : Fin 2048) (r : Fin 3584) :
    pay x s g u (ix2 n r)
      = actRef ((∑ d : Fin 4096, x (ix2 n d) * g (ix2 r d)) * s (ix2 n 0)) ((∑ d : Fin 4096, x (ix2 n d) * u (ix2 r d)) * s (ix2 n 0)) := by
  pointwise [pay, k0_pay1]
  simp only [zero_sub]
  rfl

/-- The sigmoid by the half-angle tangent is the sigmoid by the exponential. -/
theorem act_eq (g u s : EReal) : act g u s = actRef (g * s) (u * s) := by
  obtain ⟨t, -, -, ht, hs⟩ := Scalar.tanh_half (g * s)
  unfold act actRef
  rw [ht, hs]
  refine congrArg (fun z : EReal => g * s * z * (u * s)) ?_
  rw [← EReal.coe_mul, ← EReal.coe_add]
  exact congrArg _ (by ring)

theorem pay_eq (x : Vec Ideal S2048x4096 .fp8e4m3) (s : Vec Ideal S1x2048 .f32) (g u : Vec Ideal S1792x4096 .i32) :
    pay x (sOf s) (wOf g) (wOf u) = FrontKer.G x s g u := by
  have key : ∀ (n : Fin 2048) (r : Fin 3584), pay x (sOf s) (wOf g) (wOf u) (ix2 n r) = FrontKer.G x s g u (ix2 n r) := fun n r => by
    rw [pay_at]
    refine Eq.trans ?_ (act_eq _ _ _).symm
    unfold FrontKer.prod
    simp only [s_at, w_at]
    refine congrArg₂ actRef (congrArg (· * (s (ix2 0 n) : EReal)) (Finset.sum_congr rfl fun d _ => mul_comm _ _))
      (congrArg (· * (s (ix2 0 n) : EReal)) (Finset.sum_congr rfl fun d _ => mul_comm _ _))
  refine funext fun y => ?_
  have hy : y = ix2 (n0 := 2048) (n1 := 3584) (y 0) (y 1) := by
    funext d; match d with
    | ⟨0, _⟩ => rfl
    | ⟨1, _⟩ => rfl
  rw [hy]
  exact key (y 0) (y 1)

/-- The forward products of the kernel and of its reference, with the activation, return the same array. -/
theorem algebraic : Cert.algebraic_FrontIdeal_FrontReferenceIdeal := by
  intro m ρ m' ρ' _ hagree
  refine ⟨fun c => FrontKer.G (FrontKer.A0 m c) (FrontKer.A1 m c) (FrontKer.A2 m c) (FrontKer.A3 m c), ?_, ?_⟩
  · exact (θ_run Cert.FrontIdeal.defs _ _).mono
      (fun _ h c => ⟨(h c).1.trans (FrontKer.final4 m c), (h c).2.2.2.2⟩)
      (Cert.FrontIdeal.Value.run_blocks (F := Ideal) m ρ)
  · refine (θ_run Cert.FrontReferenceIdeal.defs _ _).mono (fun _ h c => ?_) (run_blocks (F := Ideal) m' ρ')
    obtain ⟨h0, h1, h2, h3⟩ := hagree c
    refine ⟨(h c).1.trans ((final4 m' c).trans ((pay_eq _ _ _ _).trans ?_)), (h c).2⟩
    exact congr (congr (congr (congrArg FrontKer.G h0) h1) h2) h3

end Cert.FrontRef

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.KernelIdeal.Value
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Gen.ReferenceIdeal.Value
public import proofs.«01_k».proof.Proof.Claims
public import proofs.«01_k».proof.Proof.BackRef
public import proofs.«01_k».proof.Proof.FrontKer
public import proofs.«01_k».proof.Proof.FrontRef
public import proofs.«01_k».proof.Proof.Gen.Front.Frame
public import proofs.«01_k».proof.Proof.Gen.FrontIdeal.Value
public import proofs.«01_k».proof.Proof.Gen.FrontReferenceIdeal.Value
public import proofs.«01_k».proof.Proof.Gen.Back.Frame
public import proofs.«01_k».proof.Proof.Gen.BackIdeal.Value
public import proofs.«01_k».proof.Proof.Gen.BackReferenceIdeal.Run
public import Idealize.ShloMosaic.Adequacy
public import Idealize.ShloMosaic.Init

@[expose] public section

noncomputable section

namespace Cert.Proof

open Idealize.ShloMosaic Idealize.SL.Sem Cert.Kernel

theorem claim : Cert.Claim :=
  ⟨Cert.Kernel.Gen.facts, Cert.KernelIdeal.Gen.facts, Cert.ReferenceIdeal.Gen.facts, Cert.Back.Gen.facts, Cert.BackIdeal.Gen.facts,
    Cert.BackReferenceIdeal.Gen.facts, Cert.Front.Gen.facts, Cert.FrontIdeal.Gen.facts, Cert.FrontReferenceIdeal.Gen.facts, PreFin.facts,
    fun m ρ _ => Cert.Kernel.Gen.frame m ρ, fun m ρ _ => Cert.KernelIdeal.Gen.frame m ρ, fun m ρ _ => Cert.KernelIdeal.Gen.frame m ρ,
    fun m ρ _ => Cert.ReferenceIdeal.Gen.frame m ρ, fun m ρ _ => Cert.ReferenceIdeal.Gen.frame m ρ,
    fun m ρ _ => Cert.Back.Gen.frame m ρ, fun m ρ _ => Cert.BackIdeal.Gen.frame m ρ, fun m ρ _ => BackRef.frame m ρ,
    fun m ρ _ => Cert.Front.Gen.frame m ρ, fun m ρ _ => Cert.FrontIdeal.Gen.frame m ρ, fun m ρ _ => Cert.FrontReferenceIdeal.Gen.frame m ρ,
    Claims.preserves, Claims.algebraic, trivial, BackRef.algebraic, trivial, FrontRef.algebraic⟩

end Cert.Proof

end
